-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x512 : Shape := ⟨2, ![2048, 512]⟩
abbrev S2x256x2048 : Shape := ⟨3, ![2, 256, 2048]⟩
abbrev S6 : Shape := ⟨1, ![6]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S512x512 : Shape := ⟨2, ![512, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S512x2048, .bf16⟩
  | .hbm, ⟨1, _⟩ => ⟨S2048x512, .bf16⟩
  | .hbm, ⟨2, _⟩ => ⟨S2048x512, .bf16⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S2x256x2048, .bf16⟩
  | .local _ .vmem, ⟨4, _⟩ => ⟨S2x256x2048, .bf16⟩
  | .local _ .vmem, ⟨5, _⟩ => ⟨S2x256x2048, .bf16⟩
  | .local _ .vmem, ⟨6, _⟩ => ⟨S2x256x2048, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_24 : BitVec 32 := 1#32
  let v43 : BitVec 32 := Scalar.muli v13 c1_i32_24
  let v44 : BitVec 32 := Scalar.addi c0_i32_25 v43
  v44.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_27 : BitVec 32 := 1#32
  let v45 : BitVec 32 := Scalar.muli v24 c1_i32_27
  let v46 : BitVec 32 := Scalar.addi c0_i32_28 v45
  v46.toNat
def k0_dev3 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_34 : BitVec 32 := 1#32
  let v47 : BitVec 32 := Scalar.muli v24 c1_i32_34
  let v48 : BitVec 32 := Scalar.addi c0_i32_35 v47
  v48.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_43 : BitVec 32 := 1#32
  let v57 : BitVec 32 := Scalar.muli v13 c1_i32_43
  let v58 : BitVec 32 := Scalar.addi c0_i32_44 v57
  v58.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_53 : BitVec 32 := 1#32
  let v67 : BitVec 32 := Scalar.muli v24 c1_i32_53
  let v68 : BitVec 32 := Scalar.addi c0_i32_54 v67
  v68.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_63 : BitVec 32 := 1#32
  let v77 : BitVec 32 := Scalar.muli v13 c1_i32_63
  let v78 : BitVec 32 := Scalar.addi c0_i32_64 v77
  v78.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v93 : BitVec 32 := Scalar.muli v2 c512_i32
  let v94 : Index := Scalar.indexCast v93
  let c0_74 : Index := 0#32
  ![v94.toNat, 0]
def k0_dev7 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_89 : BitVec 32 := 1#32
  let v104 : BitVec 32 := Scalar.muli v24 c1_i32_89
  let v105 : BitVec 32 := Scalar.addi c0_i32_90 v104
  v105.toNat
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_108 : BitVec 32 := 1#32
  let v122 : BitVec 32 := Scalar.muli v13 c1_i32_108
  let v123 : BitVec 32 := Scalar.addi c0_i32_109 v122
  v123.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_119 : BitVec 32 := 512#32
  let v138 : BitVec 32 := Scalar.muli v13 c512_i32_119
  let c256_i32 : BitVec 32 := 256#32
  let v139 : BitVec 32 := Scalar.addi v138 c256_i32
  let v140 : Index := Scalar.indexCast v139
  let c0_120 : Index := 0#32
  ![v140.toNat, 0]
def k0_off3 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_127 : BitVec 32 := 512#32
  let v148 : BitVec 32 := Scalar.muli v24 c512_i32_127
  let v149 : Index := Scalar.indexCast v148
  let c0_128 : Index := 0#32
  ![v149.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c512_i32_145 : BitVec 32 := 512#32
  let v165 : BitVec 32 := Scalar.muli v13 c512_i32_145
  let v166 : Index := Scalar.indexCast v165
  let c0_146 : Index := 0#32
  ![v166.toNat, 0]
def k0_off5 (d0 : Dev nD) (c1_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c512_i32_163 : BitVec 32 := 512#32
  let v182 : BitVec 32 := Scalar.muli v24 c512_i32_163
  let c256_i32_164 : BitVec 32 := 256#32
  let v183 : BitVec 32 := Scalar.addi v182 c256_i32_164
  let v184 : Index := Scalar.indexCast v183
  let c0_165 : Index := 0#32
  ![v184.toNat, 0]
abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cells.lean ====
/-
  The ring of four devices, its six transfers, and the cells they complete on.

  Device `c` sends six blocks of 256 rows. Transfers 0, 1 and 2 go to the right neighbour, 3, 4 and 5 to the left one.
  Transfers 0, 1, 3, 4 carry a half of the device's own 512 rows; transfer 2 passes on a half that came from the left, transfer 5
  one that came from the right. So every device ends with the rows of all four.

  The device's cells are its barrier semaphore, a departure semaphore for each of its six transfers, and an arrival
  semaphore for each of the six transfers that come to it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging cells' copy of the rounds library and the transfers' -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The ring -/

set_option backward.proofsInPublic true in
/-- The left neighbour, the right neighbour and the device across. -/
def lft (c : Dev nD) : Dev nD := ⟨(c.val + 3) % 4, Nat.mod_lt _ (by decide)⟩
set_option backward.proofsInPublic true in
def rgt (c : Dev nD) : Dev nD := ⟨(c.val + 1) % 4, Nat.mod_lt _ (by decide)⟩
set_option backward.proofsInPublic true in
def acr (c : Dev nD) : Dev nD := ⟨(c.val + 2) % 4, Nat.mod_lt _ (by decide)⟩

theorem lft_rgt (c : Dev nD) : lft (rgt c) = c := by revert c; decide
theorem rgt_lft (c : Dev nD) : rgt (lft c) = c := by revert c; decide
theorem lft_lft (c : Dev nD) : lft (lft c) = acr c := by revert c; decide
theorem rgt_rgt (c : Dev nD) : rgt (rgt c) = acr c := by revert c; decide

def ring : Dev nD ≃ Dev nD := ⟨rgt, lft, lft_rgt, rgt_lft⟩

/-- Whom device `c`'s transfer `k` goes to, and whom the transfer `k` that arrives at `c` comes from. -/
def dest (k : Fin 6) (c : Dev nD) : Dev nD := if k.val < 3 then rgt c else lft c
def orig (k : Fin 6) (c : Dev nD) : Dev nD := if k.val < 3 then lft c else rgt c

theorem dest_orig (k : Fin 6) (c : Dev nD) : dest k (orig k c) = c := by
  unfold dest orig; split
  · exact rgt_lft c
  · exact lft_rgt c
theorem orig_dest (k : Fin 6) (c : Dev nD) : orig k (dest k c) = c := by
  unfold dest orig; split
  · exact lft_rgt c
  · exact rgt_lft c

def along (k : Fin 6) : Dev nD ≃ Dev nD := ⟨dest k, orig k, orig_dest k, dest_orig k⟩

/-- The device each signal and each transfer of the kernel names. -/
theorem dev1_eq (c : Dev nD) : (⟨k0_dev1 c, k0_dev1_lt c⟩ : Dev nD) = lft c := by revert c; decide +kernel
theorem dev2_eq (c : Dev nD) : (⟨k0_dev2 c, k0_dev2_lt c⟩ : Dev nD) = rgt c := by revert c; decide +kernel
theorem dev3_eq (c : Dev nD) : (⟨k0_dev3 c, k0_dev3_lt c⟩ : Dev nD) = dest 0 c := by revert c; decide +kernel
theorem dev4_eq (c : Dev nD) : (⟨k0_dev4 c, k0_dev4_lt c⟩ : Dev nD) = dest 3 c := by revert c; decide +kernel
theorem dev5_eq (c : Dev nD) : (⟨k0_dev5 c, k0_dev5_lt c⟩ : Dev nD) = dest 1 c := by revert c; decide +kernel
theorem dev6_eq (c : Dev nD) : (⟨k0_dev6 c, k0_dev6_lt c⟩ : Dev nD) = dest 4 c := by revert c; decide +kernel
theorem dev7_eq (c : Dev nD) : (⟨k0_dev7 c, k0_dev7_lt c⟩ : Dev nD) = dest 2 c := by revert c; decide +kernel
theorem dev8_eq (c : Dev nD) : (⟨k0_dev8 c, k0_dev8_lt c⟩ : Dev nD) = dest 5 c := by revert c; decide +kernel

/-- The rows of the result each store writes, from its row offset. -/
theorem off2_eq (c : Dev nD) : k0_off2 c = ![512 * (lft c).val + 256, 0] := by revert c; decide +kernel
theorem off3_eq1 (c : Dev nD) : k0_off3 c 1#32 = ![512 * (rgt c).val, 0] := by revert c; decide +kernel
theorem off3_eq2 (c : Dev nD) : k0_off3 c 2#32 = ![512 * (acr c).val, 0] := by revert c; decide +kernel
theorem off4_eq (c : Dev nD) : k0_off4 c = ![512 * (lft c).val, 0] := by revert c; decide +kernel
theorem off5_eq1 (c : Dev nD) : k0_off5 c 1#32 = ![512 * (rgt c).val + 256, 0] := by revert c; decide +kernel
theorem off5_eq2 (c : Dev nD) : k0_off5 c 2#32 = ![512 * (acr c).val + 256, 0] := by revert c; decide +kernel

/-! ## The buffers -/

/-- The kernel's buffers: `x` and `w` staged, the result's staging buffer, the device's own rows, and the three landing
    buffers — from the left, from the right, from across. -/
abbrev xM : Memref sig .tc .vmem S512x2048 .bf16 := Memref.whole cc0_stg0_0
abbrev wM : Memref sig .tc .vmem S2048x512 .bf16 := Memref.whole cc0_stg1_0
abbrev oM : Memref sig .tc .vmem S2048x512 .bf16 := Memref.whole cc0_stg2_0
abbrev ownM : Memref sig .tc .vmem S2x256x2048 .bf16 := Memref.whole cc0_scratch0
abbrev lM : Memref sig .tc .vmem S2x256x2048 .bf16 := Memref.whole cc0_scratch1
abbrev rM : Memref sig .tc .vmem S2x256x2048 .bf16 := Memref.whole cc0_scratch2
abbrev dM : Memref sig .tc .vmem S2x256x2048 .bf16 := Memref.whole cc0_scratch3

abbrev rect0 : Rect S2x256x2048 := Rect.unit (s := S2x256x2048) ![0, 0, 0] S1x256x2048.size inb_S2x256x2048_S1x256x2048_0_0_0
abbrev rect1 : Rect S2x256x2048 := Rect.unit (s := S2x256x2048) ![1, 0, 0] S1x256x2048.size inb_S2x256x2048_S1x256x2048_1_0_0
abbrev rectA : Rect S2x256x2048 := Rect.unit (s := S2x256x2048) ![0, 0, 0] S2x256x2048.size inb_S2x256x2048_S2x256x2048_0_0_0

/-- The two halves of a buffer of 2 × 256 rows. -/
abbrev h0 (M : Memref sig .tc .vmem S2x256x2048 .bf16) : Memref sig .tc .vmem S256x2048 .bf16 :=
  (M.slice rect0 (fun _ => rfl)).squeeze S256x2048 squeezes_S1x256x2048_S256x2048
abbrev h1 (M : Memref sig .tc .vmem S2x256x2048 .bf16) : Memref sig .tc .vmem S256x2048 .bf16 :=
  (M.slice rect1 (fun _ => rfl)).squeeze S256x2048 squeezes_S1x256x2048_S256x2048

/-- What transfer `k` reads and where it lands: always the same half of the one buffer and of the other. -/
abbrev srcM : Fin 6 → Memref sig .tc .vmem S256x2048 .bf16 :=
  fun | 0 => h1 ownM | 1 => h0 ownM | 2 => h1 lM | 3 => h0 ownM | 4 => h1 ownM | 5 => h0 rM
abbrev dstM : Fin 6 → Memref sig .tc .vmem S256x2048 .bf16 :=
  fun | 0 => h1 lM | 1 => h0 lM | 2 => h1 dM | 3 => h0 rM | 4 => h1 rM | 5 => h0 dM

theorem rects_disjoint : Disjoint rect0.set rect1.set := by
  rw [Finset.disjoint_left]
  intro i h h'
  have a := (Rect.mem_set_unit.mp h) 0
  have b := (Rect.mem_set_unit.mp h') 0
  simp only [Matrix.cons_val_zero] at a b
  have : S1x256x2048.size 0 = 1 := rfl
  omega

theorem rects_cover : rect0.set ∪ rect1.set = Finset.univ := by
  refine Finset.eq_univ_of_forall fun i => ?_
  rw [Finset.mem_union]
  have h0 : (i 0).val < 2 := (i 0).isLt
  have h1 : (i 1).val < 256 := (i 1).isLt
  have h2 : (i 2).val < 2048 := (i 2).isLt
  by_cases h : (i 0).val = 0
  · left; refine Rect.mem_set_unit.mpr fun a => ?_
    fin_cases a
    · show 0 ≤ (i 0).val ∧ (i 0).val < 0 + 1; omega
    · show 0 ≤ (i 1).val ∧ (i 1).val < 0 + 256; omega
    · show 0 ≤ (i 2).val ∧ (i 2).val < 0 + 2048; omega
  · right; refine Rect.mem_set_unit.mpr fun a => ?_
    fin_cases a
    · show 1 ≤ (i 0).val ∧ (i 0).val < 1 + 1; omega
    · show 0 ≤ (i 1).val ∧ (i 1).val < 0 + 256; omega
    · show 0 ≤ (i 2).val ∧ (i 2).val < 0 + 2048; omega

section Halves
variable (M : Memref sig .tc .vmem S2x256x2048 .bf16)

theorem h0_set : (h0 M).view.set = rect0.set.map M.view.emb := by
  show ((M.view.slice rect0).reshape _ _).set = _
  rw [View.set_reshape, View.set_slice]
theorem h1_set : (h1 M).view.set = rect1.set.map M.view.emb := by
  show ((M.view.slice rect1).reshape _ _).set = _
  rw [View.set_reshape, View.set_slice]

theorem halves_disjoint : Disjoint (rect0.set.map M.view.emb) (rect1.set.map M.view.emb) :=
  (Finset.disjoint_map _).mpr rects_disjoint

theorem halves_cover : M.view.set = rect0.set.map M.view.emb ∪ rect1.set.map M.view.emb := by
  rw [← Finset.map_union, rects_cover]; rfl

end Halves

/-! ## The cells -/

/-- The barrier semaphore, and the departure and arrival semaphores of transfer `k`. -/
abbrev barS : Sem sig := (SemArray.scalar (sig.barrier 0 rfl) : Sems sig S_).sem
def sendS (k : Fin 6) : DmaSem sig := ⟨3 + k.val, by have := k.isLt; show _ < 15; omega⟩
def recvS (k : Fin 6) : DmaSem sig := ⟨9 + k.val, by have := k.isLt; show _ < 15; omega⟩

abbrev barCell (c : Dev nD) : GSem nD τ sig := ((c : Thread nD τ), .reg barS)
abbrev sendCell (k : Fin 6) (c : Dev nD) : GSem nD τ sig := ((c : Thread nD τ), .dma (sendS k))
abbrev recvCell (k : Fin 6) (c : Dev nD) : GSem nD τ sig := ((c : Thread nD τ), .dma (recvS k))

/-- The kernel's own semaphores, departures first; and all thirteen of its cells, the barrier first. -/
def osem (i : Fin 12) : SemLoc sig := .dma ⟨3 + i.val, by have := i.isLt; show _ < 15; omega⟩
def csem (i : Fin 13) : SemLoc sig := if h : i.val = 0 then .reg barS else .dma ⟨2 + i.val, by have := i.isLt; show _ < 15; omega⟩
def kcell (ck : Dev nD × Fin 13) : GSem nD τ sig := ((ck.1 : Thread nD τ), csem ck.2)

/-- The places of transfer `k`'s two cells among the thirteen. -/
def iS (k : Fin 6) : Fin 13 := ⟨1 + k.val, by have := k.isLt; omega⟩
def iR (k : Fin 6) : Fin 13 := ⟨7 + k.val, by have := k.isLt; omega⟩

theorem kcell_bar (c : Dev nD) : kcell (c, 0) = barCell c := rfl
theorem kcell_send (k : Fin 6) (c : Dev nD) : kcell (c, iS k) = sendCell k c := by fin_cases k <;> rfl
theorem kcell_recv (k : Fin 6) (c : Dev nD) : kcell (c, iR k) = recvCell k c := by fin_cases k <;> rfl

/-- What one transfer counts on its semaphores. -/
abbrev N : ℕ := (h0 lM).view.dmaCredit
theorem N_pos : 0 < N := View.dmaCredit_pos _ (by decide)
theorem amount_dst (k : Fin 6) (q : DmaSem sig) : (dstM k).view.amount (.dma q) = N := by fin_cases k <;> rfl

/-! ## Contents -/

/-- The device's rows of `x` and columns of `w`, as staged. -/
def xAt (c : Dev nD) : S512x2048.Idx → Elt F .bf16 := (win0_0.blk (0 : Fin 1)).view.read (Elt F) (m ((c : Thread nD τ).loc main_arg0))
def wAt (c : Dev nD) : S2048x512.Idx → Elt F .bf16 := (win0_1.blk (0 : Fin 1)).view.read (Elt F) (m ((c : Thread nD τ).loc main_arg1))
/-- The device's own rows as two halves, each of them, and the device whose half transfer `k` of `c` carries. -/
def ownAt (c : Dev nD) : S2x256x2048.Idx → Elt F .bf16 := k0_pay1 (xAt m c)
def lo (c : Dev nD) : S256x2048.Idx → Elt F .bf16 := (h0 ownM).view.read (Elt F) (ownAt m c)
def hi (c : Dev nD) : S256x2048.Idx → Elt F .bf16 := (h1 ownM).view.read (Elt F) (ownAt m c)
/-- The rows device `c`'s transfer `k` carries. -/
def sent (k : Fin 6) (c : Dev nD) : S256x2048.Idx → Elt F .bf16 :=
  match k with | 0 => hi m c | 1 => lo m c | 2 => hi m (lft c) | 3 => lo m c | 4 => hi m c | 5 => lo m (rgt c)
/-- The rows that arrive at device `c` by transfer `k`. -/
def arrived (k : Fin 6) (c : Dev nD) : S256x2048.Idx → Elt F .bf16 := sent m k (orig k c)

/-- The share of its source a transfer in flight holds: the device reads its own rows, and those it passes on, meanwhile. -/
def lent (k : Fin 6) : PosShare TreeShare :=
  match k with | 0 | 1 => fullShare.right.left | 3 | 4 => fullShare.right.right | 2 | 5 => fullShare.left

end Cert.Gather
-- ==== Proof.Protocol.lean ====
/-
  The protocol of the six transfers: on every cell one round, its duties, what each counts and what it hands over; what a
  device owes at launch; the levels its waits climb; and the proof data of the kernel's one pipeline point.
-/
module

public import proofs.«01_k».proof.Proof.Cells

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the duties hand over -/

/-- A place to land in, at any contents. -/
def slot (M : Memref sig .tc .vmem S256x2048 .bf16) (c : Dev nD) : sProp 𝕄 := iprop(∃ X, owns (c : Thread nD τ) M fullShare X)

/-- What device `d` hands the neighbour it signals: to the left one (`true`) the places of the transfers that come from the
    left, to the right one (`false`) the places of those that come from the right. -/
def places (b : Bool) (d : Dev nD) : sProp 𝕄 :=
  if b then iprop(slot (dstM 0) d ∗ slot (dstM 1) d ∗ slot (dstM 2) d) else iprop(slot (dstM 3) d ∗ slot (dstM 4) d ∗ slot (dstM 5) d)

/-- The signals that reach device `c`'s barrier: the right neighbour's and the left one's. -/
def barPay (b : Bool) (c : Dev nD) : sProp 𝕄 := places b (if b then rgt c else lft c)
/-- A departure gives the lent share of the source back; an arrival gives the place with the rows that came. -/
def sendPay (k : Fin 6) (c : Dev nD) : sProp 𝕄 := owns (c : Thread nD τ) (srcM k) (lent k) (sent m k c)
def recvPay (k : Fin 6) (c : Dev nD) : sProp 𝕄 := owns (c : Thread nD τ) (dstM k) fullShare (arrived m k c)

instance slot_storable (M : Memref sig .tc .vmem S256x2048 .bf16) (c : Dev nD) : BI.Storable (upEmb : UEmb _ 𝕄) (slot (F := F) M c) := by
  unfold slot; infer_instance
instance barPay_storable (b : Bool) (c : Dev nD) : BI.Storable (upEmb : UEmb _ 𝕄) (barPay (F := F) b c) := by
  unfold barPay places; split <;> infer_instance
instance sendPay_storable (k : Fin 6) (c : Dev nD) : BI.Storable (upEmb : UEmb _ 𝕄) (sendPay m k c) := by
  unfold sendPay; infer_instance
instance recvPay_storable (k : Fin 6) (c : Dev nD) : BI.Storable (upEmb : UEmb _ 𝕄) (recvPay m k c) := by
  unfold recvPay; infer_instance

/-- What the completion of a transfer hands over, by the semaphore it counts on. -/
def xferPay (q : DmaSem sig) (c : Dev nD) : sProp 𝕄 :=
  if h : 3 ≤ q.val ∧ q.val < 9 then sendPay m ⟨q.val - 3, by omega⟩ c
  else if h : 9 ≤ q.val ∧ q.val < 15 then recvPay m ⟨q.val - 9, by omega⟩ c
  else iprop(emp)

instance xferPay_storable (q : DmaSem sig) (c : Dev nD) : BI.Storable (upEmb : UEmb _ 𝕄) (xferPay m q c) := by
  unfold xferPay; (repeat' split) <;> infer_instance

/-- One round: a barrier cell has two duties of one unit, named by the neighbour that pays (`true` the right one); a transfer's
    cell has one, of the transfer's count. -/
def rd : Rounds.Schedule (GSem nD τ sig) Bool 𝕄 where
  duties g r := if r = 0 then (if g.2 = .reg barS then Finset.univ else {false}) else ∅
  unitless _ := False
  amount g _ _ := if g.2 = .reg barS then 1 else N
  payload g _ d := match g.2 with
    | .reg _ => barPay d g.1.1
    | .dma q => xferPay m q g.1.1
  amount_pos g _ _ _ := by
    by_cases h : g.2 = .reg barS
    · rw [if_pos h]; exact Nat.one_pos
    · rw [if_neg h]; exact N_pos

instance rd_payload_storable (g : GSem nD τ sig) (r : ℕ) (d : Bool) :
    BI.Storable (upEmb : UEmb _ 𝕄) ((rd m).payload g r d) := by
  obtain ⟨t, sm⟩ := g
  cases sm with
  | reg q => exact barPay_storable d t.1
  | dma q => exact xferPay_storable m q t.1

section Tables
variable (k : Fin 6) (c : Dev nD)

theorem dma_ne_bar (q : DmaSem sig) : (SemLoc.dma q : SemLoc sig) ≠ .reg barS := fun h => by cases h

theorem duties_bar : (rd m).duties (barCell c) 0 = Finset.univ := by dsimp only [rd]; rw [if_pos rfl, if_pos rfl]
theorem duties_dma (q : DmaSem sig) : (rd m).duties ((c : Thread nD τ), .dma q) 0 = {false} := by
  dsimp only [rd]; rw [if_pos rfl, if_neg (dma_ne_bar q)]
theorem duties_later (g : GSem nD τ sig) : ∀ r, 1 ≤ r → (rd m).duties g r = ∅ :=
  fun r hr => by dsimp only [rd]; rw [if_neg (by omega)]

theorem amount_bar (d : Bool) : (rd m).amount (barCell c) 0 d = 1 := by dsimp only [rd]; exact if_pos rfl
theorem amount_dma (q : DmaSem sig) (d : Bool) : (rd m).amount ((c : Thread nD τ), .dma q) 0 d = N := by
  dsimp only [rd]; exact if_neg (dma_ne_bar q)

theorem expect_bar : (rd m).expect (barCell c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) : (rd m).expect ((c : Thread nD τ), .dma q) 0 = N := by
  unfold Schedule.expect Schedule.amountOf; rw [duties_dma, Finset.sum_singleton, amount_dma]

theorem payload_bar (d : Bool) : (rd m).payload (barCell c) 0 d = barPay d c := rfl
theorem payload_send (d : Bool) : (rd m).payload (sendCell k c) 0 d = sendPay m k c := by
  show xferPay m (sendS k) c = _
  unfold xferPay
  have hk := k.isLt
  have hv : (sendS k).val = 3 + k.val := rfl
  rw [dif_pos ⟨by omega, by omega⟩]
  congr 1
  exact Fin.ext (by show (sendS k).val - 3 = k.val; omega)
theorem payload_recv (d : Bool) : (rd m).payload (recvCell k c) 0 d = recvPay m k c := by
  show xferPay m (recvS k) c = _
  unfold xferPay
  have hk := k.isLt
  have hv : (recvS k).val = 9 + k.val := rfl
  rw [dif_neg (fun h => by omega), dif_pos ⟨by omega, by omega⟩]
  congr 1
  exact Fin.ext (by show (recvS k).val - 9 = k.val; omega)

theorem rest_bar : bigSep ((rd m).duties (barCell c) 0 \ ∅) (fun d => (rd m).payload (barCell c) 0 d) = iprop(barPay true c ∗ barPay false c) := by
  rw [Finset.sdiff_empty, duties_bar, bigSep_univ_eq_bigSepL [true, false] (by decide) (by decide), bigSepL_cons_cons, bigSepL_singleton,
    payload_bar, payload_bar]
  rfl
theorem rest_send : bigSep ((rd m).duties (sendCell k c) 0 \ ∅) (fun d => (rd m).payload (sendCell k c) 0 d) = sendPay m k c := by
  rw [Finset.sdiff_empty, duties_dma, bigSep_singleton, payload_send]
theorem rest_recv : bigSep ((rd m).duties (recvCell k c) 0 \ ∅) (fun d => (rd m).payload (recvCell k c) 0 d) = recvPay m k c := by
  rw [Finset.sdiff_empty, duties_dma, bigSep_singleton, payload_recv]

end Tables

/-! ## What a device owes at launch, and the levels -/

/-- The debt of device `c`'s transfer `k`: its count on the arrival cell of the device it goes to. -/
def due (k : Fin 6) (c : Dev nD) : CellTallies nD τ sig Unit := tallyAt (recvCell k (dest k c)) () N

/-- The debts left, in the order the kernel pays them (the last summand first): after transfers 0, 3, 1, 4; before them. -/
def due25 (c : Dev nD) : CellTallies nD τ sig Unit := (0 + due 5 c) + due 2 c
def due6 (c : Dev nD) : CellTallies nD τ sig Unit := (((due25 c + due 4 c) + due 1 c) + due 3 c) + due 0 c
def O₀ (c : Dev nD) : CellTallies nD τ sig Unit := (due6 c + tallyAt (barCell (rgt c)) () 1) + tallyAt (barCell (lft c)) () 1

def L (g : GSem nD τ sig) : Finset Unit := if g.1.2 = .tc then {()} else ∅

/-- The level of a semaphore: staging and departures 0, the barrier 1, arrivals from a neighbour's own rows 2, arrivals
    of rows passed on 3. -/
def semLv : SemLoc sig → ℕ
  | .reg _ => 1
  | .dma q => if q.val < 9 then 0 else if q = recvS 2 ∨ q = recvS 5 then 3 else 2
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl

/-- Every cell `O` owes on is a TensorCore's, at a level above `n`. -/
def Above (n : ℕ) (O : CellTallies nD τ sig Unit) : Prop := ∀ g u, 0 < O g u → g.1.2 = .tc ∧ n < semLv g.2

theorem Above.zero (n : ℕ) : Above n 0 := fun g u h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (sm : SemLoc sig) (j : ℕ) (h : n < semLv sm) :
    Above n (tallyAt ((c : Thread nD τ), sm) () j) := fun g u hg => by
  rw [tallyAt_apply] at hg
  by_cases e : g = ((c : Thread nD τ), sm) ∧ u = ()
  · rw [e.1]; exact ⟨rfl, h⟩
  · rw [if_neg e] at hg; exact absurd hg (Nat.lt_irrefl 0)

theorem mayWait_of (c : Dev nD) (sm : SemLoc sig) (n : ℕ) (hs : semLv sm ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hs)
    (fun g u hg => (hO g u hg).2)

theorem lv_recv (k : Fin 6) : semLv (.dma (recvS k)) = if k = 2 ∨ k = 5 then 3 else 2 := by revert k; decide

theorem above_due (n : ℕ) (k : Fin 6) (c : Dev nD) (h : n < semLv (.dma (recvS k))) : Above n (due k c) := Above.tally _ _ _ h

theorem above_due25 (c : Dev nD) : Above 2 (due25 c) :=
  ((Above.zero 2).add (above_due 2 5 c (by decide))).add (above_due 2 2 c (by decide))
theorem above_due5 (c : Dev nD) : Above 2 (0 + due 5 c) := (Above.zero 2).add (above_due 2 5 c (by decide))
theorem Above.mono {n n' : ℕ} (hn : n ≤ n') {O : CellTallies nD τ sig Unit} (h : Above n' O) : Above n O :=
  fun g u hg => ⟨(h g u hg).1, lt_of_le_of_lt hn (h g u hg).2⟩
theorem above_due6 (c : Dev nD) : Above 1 (due6 c) :=
  (((((above_due25 c).mono (by decide)).add (above_due 1 4 c (by decide))).add (above_due 1 1 c (by decide))).add
    (above_due 1 3 c (by decide))).add (above_due 1 0 c (by decide))
theorem above_O₀ (c : Dev nD) : Above 0 (O₀ c) :=
  (((above_due6 c).mono (by decide)).add (Above.tally _ _ _ (by decide))).add (Above.tally _ _ _ (by decide))

/-! ## The result -/

/-- The product of 256 rows with the device's columns, as the kernel computes it. -/
def rowsDot (X : S256x2048.Idx → Elt F .bf16) (w : S2048x512.Idx → Elt F .bf16) : S256x512.Idx → Elt F .bf16 :=
  k0_pay7 X (k0_pay6 w) (constant S256x512 .f32 0x00000000#32)

/-- Row `r` of device `p`'s rows against the columns of device `c`: the device's own rows are multiplied all at once, the
    others' half by half. -/
def outRow (c p : Dev nD) (r : Fin 512) (j : Fin 512) : Elt F .bf16 :=
  if p = c then k0_pay3 (k0_pay2 (ownAt m c)) (wAt m c) (fun | 0 => r | 1 => j)
  else if h : r.val < 256 then rowsDot (lo m p) (wAt m c) (fun | 0 => ⟨r.val, h⟩ | 1 => j)
  else rowsDot (hi m p) (wAt m c) (fun | 0 => ⟨r.val - 256, by have := r.isLt; show _ < 256; omega⟩ | 1 => j)

/-- The result on device `c`: row `i` is row `i % 512` of device `i / 512`. -/
def outAt (c : Dev nD) : S2048x512.Idx → Elt F .bf16 := fun i =>
  outRow m c ⟨(i 0).val / 512, by have : (i 0).val < 2048 := (i 0).isLt; show _ < 4; omega⟩
    ⟨(i 0).val % 512, Nat.mod_lt _ (by decide)⟩ (i 1)

/-! ## The ghost state a device starts from, and the proof data -/

/-- Every cell's invariant, and that it has reached its first round. -/
def records (K : Dev nD × Fin 13 → ℕ) : sProp 𝕄 :=
  iprop((bigSep Finset.univ fun ck : Dev nD × Fin 13 => cellInv ER (rd m) (K ck) (kcell ck))
    ∗ bigSep Finset.univ fun ck : Dev nD × Fin 13 => reached ER (kcell ck) 0)

instance records_persistent (K : Dev nD × Fin 13 → ℕ) : BI.Persistent (records m K) := by unfold records; infer_instance

/-- The tokens of the duties device `c` pays: its two neighbours' barriers, its own departures, the arrivals it causes. -/
def payToks (c : Dev nD) : sProp 𝕄 :=
  iprop(dutyTok ER (barCell (lft c)) 0 true ∗ dutyTok ER (barCell (rgt c)) 0 false
    ∗ (bigSep Finset.univ fun k : Fin 6 => dutyTok ER (sendCell k c) 0 false)
    ∗ bigSep Finset.univ fun k : Fin 6 => dutyTok ER (recvCell k (dest k c)) 0 false)

/-- Its positions on its own cells, and those tokens. -/
def linear (c : Dev nD) : sProp 𝕄 :=
  iprop((bigSep Finset.univ fun i : Fin 13 => atPos ER (kcell (c, i)) 0 ∅ 0) ∗ payToks c)

def ghost (K : Dev nD × Fin 13 → ℕ) (c : Dev nD) : sProp 𝕄 := iprop(records m K ∗ linear c)

/-- The credit the others owe it: two units on its barrier, a transfer's count on each arrival cell. -/
def credits (c : Dev nD) : sProp 𝕄 :=
  iprop(cred (tallyAt (barCell c) () 2) ∗ bigSep Finset.univ fun k : Fin 6 => cred (tallyAt (recvCell k c) () N))

def start (c : Dev nD) : sProp 𝕄 := iprop((∃ K, ghost m K c) ∗ credits c ∗ levAts L lv)

/-- The four scratch buffers, at any contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

def Φ₀ (c : Dev nD) : sProp 𝕄 := iprop(start m c ∗ scratch c)
/-- After the kernel: the scratch buffers back, and every one of its cells closed, its counter at zero. -/
def Φ₁ (c : Dev nD) : sProp 𝕄 := iprop(scratch c ∗ bigSep Finset.univ fun i : Fin 13 => semVal (kcell (c, i)) 0)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => wAt m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Gather
-- ==== Proof.Steps.lean ====
/-
  One rule for each kind of statement of the kernel: a signal, the barrier's wait, a transfer, the wait for an arrival, the
  wait for a departure, a load of a half, and the splitting of the buffers into their halves and shares.
-/
module

public import proofs.«01_k».proof.Proof.Protocol

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- What device `c` owes, whatever it has waited for so far. -/
def owed (c : Dev nD) (O : CellTallies nD τ sig Unit) : sProp 𝕄 := iprop(∃ W, owes (c : Thread nD τ) O W)

/-! ## Reading the records -/

section Records
variable (K : Dev nD × Fin 13 → ℕ)

theorem inv_at (ck : Dev nD × Fin 13) : records m K ⊢ cellInv ER (rd m) (K ck) (kcell ck) := by
  unfold records; iintro ⟨#HI, -⟩
  iapply (show (iprop([∗ Finset.univ] (ck : Dev nD × Fin 13), cellInv ER (rd m) (K ck) (kcell ck)) : sProp 𝕄) ⊢ cellInv ER (rd m) (K ck) (kcell ck) from bigSep_elim (Finset.mem_univ ck)); iexact HI
theorem reached_at (ck : Dev nD × Fin 13) : records m K ⊢ reached ER (kcell ck) 0 := by
  unfold records; iintro ⟨-, #HR⟩
  iapply (show (iprop([∗ Finset.univ] (ck : Dev nD × Fin 13), reached ER (kcell ck) 0) : sProp 𝕄) ⊢ reached ER (kcell ck) 0 from bigSep_elim (Finset.mem_univ ck)); iexact HR

theorem inv_bar (c : Dev nD) : records m K ⊢ cellInv ER (rd m) (K (c, 0)) (barCell c) := inv_at m K (c, 0)
theorem inv_send (k : Fin 6) (c : Dev nD) : records m K ⊢ cellInv ER (rd m) (K (c, iS k)) (sendCell k c) := by
  have h := inv_at m K (c, iS k); rwa [kcell_send] at h
theorem inv_recv (k : Fin 6) (c : Dev nD) : records m K ⊢ cellInv ER (rd m) (K (c, iR k)) (recvCell k c) := by
  have h := inv_at m K (c, iR k); rwa [kcell_recv] at h
theorem reached_bar (c : Dev nD) : records m K ⊢ reached ER (barCell c) 0 := reached_at m K (c, 0)
theorem reached_send (k : Fin 6) (c : Dev nD) : records m K ⊢ reached ER (sendCell k c) 0 := by
  have h := reached_at m K (c, iS k); rwa [kcell_send] at h
theorem reached_recv (k : Fin 6) (c : Dev nD) : records m K ⊢ reached ER (recvCell k c) 0 := by
  have h := reached_at m K (c, iR k); rwa [kcell_recv] at h

end Records

/-! ## The statements -/

section Stmts
variable (K : Dev nD × Fin 13 → ℕ) (c : Dev nD)

/-- A signal to the neighbour `n`: its duty `b` there, the places handed over, one unit less owed. -/
theorem step_signal {α : Type} {Q : α → sProp 𝕄} {k : PUnit → Prog (TpuEff nD τ sig (Elt F) Λ₀ .tc) α}
    (b : Bool) (n n' : Dev nD) (hn : n' = n) {s : Sem sig} (hs : s = barS) {a : ℤ} (ha : a = 1) (O : CellTallies nD τ sig Unit) :
    iprop(records m K ∗ owed c (O + tallyAt (barCell n) () 1) ∗ dutyTok ER (barCell n) 0 b ∗ barPay b n)
      ⊢ iprop((owed c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n' : Thread nD τ) s a) k) Q) := by
  subst hn; subst hs; subst ha
  unfold owed
  iintro ⟨#HR, ⟨%W, HO⟩, Ht, Hp⟩ Hk
  iapply (Rounds.wp_signal 𝒱₀ ER (rd m) (c : Thread nD τ) none (dst := (n' : Thread nD τ)) (κ := K (n', 0))
      (d := b) (by rw [duties_bar]; exact Finset.mem_univ _) (amount_bar m n' b) () O rfl) $$ [HO Ht Hp]
  · isplitr; · iapply (inv_bar m K n'); iexact HR
    isplitl [HO]; · iexact HO
    isplitl [Ht]; · iexact Ht
    isplitl [Hp]; · rw [payload_bar]; iexact Hp
    iapply (reached_bar m K n'); iexact HR
  iintro HO
  iapply Hk
  iexists W; iexact HO

/-- The barrier's wait for both neighbours: the places of the six transfers. -/
theorem step_barrier {α : Type} {Q : α → sProp 𝕄} {k : PUnit → Prog (TpuEff nD τ sig (Elt F) Λ₀ .tc) α}
    {s : Sem sig} (hs : s = barS) {a : ℤ} (ha : a = 2) (O : CellTallies nD τ sig Unit) (hO : Above 1 O) :
    iprop(records m K ∗ levAts L lv ∗ cred (tallyAt (barCell c) () 2) ∗ owed c O ∗ atPos ER (barCell c) 0 ∅ 0)
      ⊢ iprop(((owed c O ∗ atPos ER (barCell c) 1 ∅ 0 ∗ barPay true c ∗ barPay false c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s a) k) Q) := by
  subst hs; subst ha
  unfold owed
  iintro ⟨#HR, #Hlev, Hc, ⟨%W, HO⟩, Ha⟩ Hk
  iapply (Rounds.wp_wait_rest_token 𝒱₀ ER (rd m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Ha]
  · isplitr; · iapply (inv_bar m K c); iexact HR
    isplitl [Hc]; · iexact Hc
    isplitl [HO]; · iexact HO
    isplitr; · iapply (mayWait_of c (.reg barS) 1 (by decide) hO); iexact Hlev
    iexact Ha
  iintro ⟨HO, Ha, -, Hpay⟩
  ihave Hp := (Entails.of_eq (rest_bar m c)) $$ Hpay
  icases Hp with ⟨Hp1, Hp2⟩
  iapply Hk
  isplitl [HO]; · iexists (insert (SemLoc.reg barS, ()) W); iexact HO
  isplitl [Ha]; · iexact Ha
  isplitl [Hp1] <;> iassumption

/-- Transfer `t`, from a share of its source into the place its receiver handed over. -/
theorem step_send {α : Type} {Q : α → sProp 𝕄} {k : PUnit → Prog (TpuEff nD τ sig (Elt F) Λ₀ .tc) α}
    (t : Fin 6) (n : Dev nD) (hn : n = dest t c) {src dst : Memref sig .tc .vmem S256x2048 .bf16} (hs : src = srcM t) (hd : dst = dstM t)
    {qS qR : DmaSem sig} (hqS : qS = sendS t) (hqR : qR = recvS t)
    {hsc : dst.view.ref.isScScratch = false} {hsrc : src.view.WordExact} {hdst : dst.view.WordExact}
    {hsem : DmaTarget.Typed .vmem (.dma qR) (.remote (n : Thread nD τ) dst (.dma qS) hsc)} (O : CellTallies nD τ sig Unit) :
    iprop(records m K ∗ owns (c : Thread nD τ) (srcM t) (lent t) (sent m t c) ∗ slot (dstM t) (dest t c) ∗ owed c (O + due t c)
        ∗ dutyTok ER (sendCell t c) 0 false ∗ dutyTok ER (recvCell t (dest t c)) 0 false)
      ⊢ iprop(((cred (tallyAt (sendCell t c) () N) ∗ owed c O)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (n : Thread nD τ) dst (.dma qS) hsc) (.dma qR) hsrc hdst hsem) k) Q) := by
  subst hn; subst hs; subst hd; subst hqS; subst hqR
  unfold owed slot owns
  iintro ⟨#HR, ⟨%fs, %hfs, Hsrc⟩, ⟨%X, %fd, %hfd, Hdst⟩, ⟨%W, HO⟩, Ht1, Ht2⟩ Hk
  iapply (Rounds.wp_send_pointsTo 𝒱₀ ER (rd m) (c : Thread nD τ) none (κ₁ := K (c, iS t)) (κ₂ := K (dest t c, iR t))
    (r₁ := 0) (r₂ := 0) (d₁ := false) (d₂ := false) (q := lent t) (fs := fs) (fd := fd)
    (by rw [duties_dma]; exact Finset.mem_singleton_self _) (by rw [duties_dma]; exact Finset.mem_singleton_self _)
    () () N (amount_dst t _) (amount_dma m c _ false) (amount_dma m (dest t c) _ false) O rfl (W := W)
    (by rw [payload_send]; unfold sendPay owns; iintro H; iexists fs; isplitr
        · ipureintro; exact hfs
        · iexact H)
    (by rw [payload_recv]; unfold recvPay owns; iintro H; iexists _; isplitr
        swap
        · iexact H
        · ipureintro; rw [View.read_write_univ]; unfold arrived; rw [orig_dest]; exact hfs)) $$ [Hsrc Hdst HO Ht1 Ht2]
  · isplitr; · iapply (inv_send m K t c); iexact HR
    isplitr; · iapply (inv_recv m K t (dest t c)); iexact HR
    isplitl [Hsrc]; · iexact Hsrc
    isplitl [Hdst]; · iexact Hdst
    isplitl [HO]; · iexact HO
    isplitl [Ht1]; · iexact Ht1
    isplitr; · iapply (reached_send m K t c); iexact HR
    isplitl [Ht2]; · iexact Ht2
    iapply (reached_recv m K t (dest t c)); iexact HR
  iintro ⟨Hc, HO⟩
  iapply Hk
  isplitl [Hc]; · iexact Hc
  iexists W; iexact HO

/-- The wait for the rows that arrive by transfer `t`, owing at most what is passed on later. -/
theorem step_arrive {α : Type} {Q : α → sProp 𝕄} {k : PUnit → Prog (TpuEff nD τ sig (Elt F) Λ₀ .tc) α}
    (t : Fin 6) (O : CellTallies nD τ sig Unit) (n : ℕ) (hn : semLv (.dma (recvS t)) ≤ n) (hO : Above n O)
    {q : DmaSem sig} (hq : q = recvS t) {src dst : Memref sig .tc .vmem S256x2048 .bf16} {hsrc : src.view.WordExact} {hdst : dst.view.WordExact}
    (hN : dst.view.dmaCredit = N) :
    iprop(records m K ∗ levAts L lv ∗ cred (tallyAt (recvCell t c) () N) ∗ owed c O ∗ atPos ER (recvCell t c) 0 ∅ 0)
      ⊢ iprop(((owed c O ∗ atPos ER (recvCell t c) 1 ∅ 0 ∗ owns (c : Thread nD τ) (dstM t) fullShare (arrived m t c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold owed
  iintro ⟨#HR, #Hlev, Hc, ⟨%W, HO⟩, Ha⟩ Hk
  iapply (Rounds.wp_wait_rest_token 𝒱₀ ER (rd m) (c : Thread nD τ) none (κ := K (c, iR t))
      (wpE_waitDma2_eq 𝒱₀ (c : Thread nD τ) none Set.univ) (Set.mem_univ _) () (O := O) (W := W) (R := 0) (m := 0) (T := ∅)
      (by rw [expect_dma, hN, Nat.zero_add])) $$ [Hc HO Ha]
  · isplitr; · iapply (inv_recv m K t c); iexact HR
    isplitl [Hc]; · rw [hN]; iexact Hc
    isplitl [HO]; · iexact HO
    isplitr; · iapply (mayWait_of c (.dma (recvS t)) n hn hO); iexact Hlev
    iexact Ha
  iintro ⟨HO, Ha, -, Hpay⟩
  ihave Hp := (Entails.of_eq (rest_recv m t c)) $$ Hpay
  unfold recvPay
  iapply Hk
  isplitl [HO]; · iexists (insert (SemLoc.dma (recvS t), ()) W); iexact HO
  isplitl [Ha] <;> iassumption

/-- The wait for the departure of transfer `t`, owing nothing: the lent share of its source back. -/
theorem step_depart {α : Type} {Q : α → sProp 𝕄} {k : PUnit → Prog (TpuEff nD τ sig (Elt F) Λ₀ .tc) α}
    (t : Fin 6)
    {q : DmaSem sig} (hq : q = sendS t) {src dst : Memref sig .tc .vmem S256x2048 .bf16} {hsrc : src.view.WordExact} {hdst : dst.view.WordExact}
    (hN : dst.view.dmaCredit = N) :
    iprop(records m K ∗ cred (tallyAt (sendCell t c) () N) ∗ owed c 0 ∗ atPos ER (sendCell t c) 0 ∅ 0)
      ⊢ iprop(((owed c 0 ∗ atPos ER (sendCell t c) 1 ∅ 0 ∗ owns (c : Thread nD τ) (srcM t) (lent t) (sent m t c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  subst hq
  unfold owed
  iintro ⟨#HR, Hc, ⟨%W, HO⟩, Ha⟩ Hk
  iapply (Rounds.wp_wait_rest_token 𝒱₀ ER (rd m) (c : Thread nD τ) none (κ := K (c, iS t))
      (wpE_waitDma2_eq 𝒱₀ (c : Thread nD τ) none Set.univ) (Set.mem_univ _) () (O := 0) (W := W) (R := 0) (m := 0) (T := ∅)
      (by rw [expect_dma, hN, Nat.zero_add])) $$ [Hc HO Ha]
  · isplitr; · iapply (inv_send m K t c); iexact HR
    isplitl [Hc]; · rw [hN]; iexact Hc
    isplitl [HO]; · iexact HO
    isplitr; · rw [MayWait_zero]; iempintro
    iexact Ha
  iintro ⟨HO, Ha, -, Hpay⟩
  ihave Hp := (Entails.of_eq (rest_send m t c)) $$ Hpay
  unfold sendPay
  iapply Hk
  isplitl [HO]; · iexists (insert (SemLoc.dma (sendS t), ()) W); iexact HO
  isplitl [Ha] <;> iassumption

end Stmts

/-! ## Loads of a half -/

/-- 256 rows as a block of one half. -/
def up (X : S256x2048.Idx → Elt F .bf16) : S1x256x2048.Idx → Elt F .bf16 := shapeCast S1x256x2048 X

theorem cast_up (X : S256x2048.Idx → Elt F .bf16) : shapeCast S256x2048 (up X) shapeCasts_S1x256x2048_S256x2048 = X := by
  funext j
  unfold up shapeCast
  rw [Shape.reshapeEquiv_reshapeEquiv, Shape.reshapeEquiv_self]

/-- What a load of a rectangle reads, by the memref that rectangle is squeezed to. -/
theorem readAt_squeezed {κ : Kind} {sp : CoreSpace} {s : Shape} {e : EltTy} (M : Memref sig κ sp s e) (r : Rect s) (hr : ∀ a, r.stride a = 1)
    (t : Shape) (hq : r.shape.Squeezes t) (f : M.view.ty.Contents (Elt F)) (h : t.ShapeCasts r.shape) :
    M.view.readAt (Elt F) r.toLoadRect f = shapeCast r.shape (((M.slice r hr).squeeze t hq).view.read (Elt F) f) h := by
  rw [View.readAt_rect]
  funext j
  show _ = (M.view.slice r).read (Elt F) f (Shape.reshapeEquiv _ (Shape.reshapeEquiv _ j))
  rw [Shape.reshapeEquiv_reshapeEquiv, Shape.reshapeEquiv_self]

section Loads
variable (c : Dev nD) (M : Memref sig .tc .vmem S2x256x2048 .bf16)

theorem readAt_h0 (f : M.view.ty.Contents (Elt F)) : M.view.readAt (Elt F) rect0.toLoadRect f = up ((h0 M).view.read (Elt F) f) :=
  readAt_squeezed M rect0 (fun _ => rfl) S256x2048 squeezes_S1x256x2048_S256x2048 f (by decide)
theorem readAt_h1 (f : M.view.ty.Contents (Elt F)) : M.view.readAt (Elt F) rect1.toLoadRect f = up ((h1 M).view.read (Elt F) f) :=
  readAt_squeezed M rect1 (fun _ => rfl) S256x2048 squeezes_S1x256x2048_S256x2048 f (by decide)

theorem step_load_h0 {α : Type} {Q : α → sProp 𝕄} {k : (S1x256x2048.Idx → Elt F .bf16) → Prog (TpuEff nD τ sig (Elt F) Λ₀ .tc) α}
    {hl : M.view.LoadsAt rect0.toLoadRect} (q : PosShare TreeShare) (X : S256x2048.Idx → Elt F .bf16) :
    (owns (c : Thread nD τ) (h0 M) q X : sProp 𝕄)
      ⊢ iprop((owns (c : Thread nD τ) (h0 M) q X -∗ wp frame (wpE (defs₀ (F := F)) 𝒱₀ (c : Thread nD τ) none) Set.univ (k (up X)) Q)
          -∗ wp frame (wpE (defs₀ (F := F)) 𝒱₀ (c : Thread nD τ) none) Set.univ (.op (.load M rect0.toLoadRect hl) k) Q) := by
  unfold owns
  iintro ⟨%f, %hf, H⟩ Hk
  have hS : M.view.setOn rect0.toLoadRect.set ⊆ (h0 M).view.set := by rw [h0_set]; exact subset_rfl
  iapply (wp_load 𝒱₀ (c : Thread nD τ) none Set.univ (m := M) (q := q) (f := f) hS) $$ H
  iintro H
  rw [readAt_h0, hf]
  iapply Hk
  iexists f; isplitr
  · ipureintro; exact hf
  · iexact H

theorem step_load_h1 {α : Type} {Q : α → sProp 𝕄} {k : (S1x256x2048.Idx → Elt F .bf16) → Prog (TpuEff nD τ sig (Elt F) Λ₀ .tc) α}
    {hl : M.view.LoadsAt rect1.toLoadRect} (q : PosShare TreeShare) (X : S256x2048.Idx → Elt F .bf16) :
    (owns (c : Thread nD τ) (h1 M) q X : sProp 𝕄)
      ⊢ iprop((owns (c : Thread nD τ) (h1 M) q X -∗ wp frame (wpE (defs₀ (F := F)) 𝒱₀ (c : Thread nD τ) none) Set.univ (k (up X)) Q)
          -∗ wp frame (wpE (defs₀ (F := F)) 𝒱₀ (c : Thread nD τ) none) Set.univ (.op (.load M rect1.toLoadRect hl) k) Q) := by
  unfold owns
  iintro ⟨%f, %hf, H⟩ Hk
  have hS : M.view.setOn rect1.toLoadRect.set ⊆ (h1 M).view.set := by rw [h1_set]; exact subset_rfl
  iapply (wp_load 𝒱₀ (c : Thread nD τ) none Set.univ (m := M) (q := q) (f := f) hS) $$ H
  iintro H
  rw [readAt_h1, hf]
  iapply Hk
  iexists f; isplitr
  · ipureintro; exact hf
  · iexact H

theorem whole_half0 (q : PosShare TreeShare) (f : Buf (Elt F) (M.view.loc (c : Thread nD τ))) :
    (M.view.loc (c : Thread nD τ) ↦[rect0.set.map M.view.emb]{q} f : sProp 𝕄) ⊢ owns (c : Thread nD τ) (h0 M) q ((h0 M).view.read (Elt F) f) := by
  unfold owns; rw [h0_set]; iintro H; iexists f; isplitr
  · ipureintro; rfl
  · iexact H

theorem whole_half1 (q : PosShare TreeShare) (f : Buf (Elt F) (M.view.loc (c : Thread nD τ))) :
    (M.view.loc (c : Thread nD τ) ↦[rect1.set.map M.view.emb]{q} f : sProp 𝕄) ⊢ owns (c : Thread nD τ) (h1 M) q ((h1 M).view.read (Elt F) f) := by
  unfold owns; rw [h1_set]; iintro H; iexists f; isplitr
  · ipureintro; rfl
  · iexact H

/-- A whole buffer of 2 × 256 rows is its two halves. -/
theorem whole_halves (q : PosShare TreeShare) (f : Buf (Elt F) (M.view.loc (c : Thread nD τ))) :
    (M.view.loc (c : Thread nD τ) ↦[M.view.set]{q} f : sProp 𝕄)
      ⊢ iprop(owns (c : Thread nD τ) (h0 M) q ((h0 M).view.read (Elt F) f) ∗ owns (c : Thread nD τ) (h1 M) q ((h1 M).view.read (Elt F) f)) := by
  rw [halves_cover]
  refine (pointsTo_union (halves_disjoint M)).1.trans (BI.sep_mono ?_ ?_)
  · exact whole_half0 c M q f
  · exact whole_half1 c M q f

theorem halves_whole (q : PosShare TreeShare) (X Y : S256x2048.Idx → Elt F .bf16) :
    iprop(owns (c : Thread nD τ) (h0 M) q X ∗ owns (c : Thread nD τ) (h1 M) q Y)
      ⊢ (iprop(∃ f, M.view.loc (c : Thread nD τ) ↦[M.view.set]{q} f) : sProp 𝕄) := by
  unfold owns; rw [halves_cover, h0_set, h1_set]
  iintro ⟨⟨%f, %hf, H⟩, ⟨%g, %hg, H'⟩⟩
  iexists _
  iapply (pointsTo_join (halves_disjoint M))
  isplitl [H] <;> iassumption

end Loads

/-- A share is its two halves. -/
theorem owns_share (c : Dev nD) (M : Memref sig .tc .vmem S256x2048 .bf16) (q : PosShare TreeShare) (X : S256x2048.Idx → Elt F .bf16) :
    (owns (c : Thread nD τ) M q X : sProp 𝕄) ⊢ iprop(owns (c : Thread nD τ) M q.left X ∗ owns (c : Thread nD τ) M q.right X) := by
  unfold owns
  iintro ⟨%f, %hf, H⟩
  ihave H' := (pointsTo_share (PosShare.mem_left_op_right q)).1 $$ H
  icases H' with ⟨H1, H2⟩
  isplitl [H1]
  · iexists f; isplitr
    · ipureintro; exact hf
    · iexact H1
  · iexists f; isplitr
    · ipureintro; exact hf
    · iexact H2

end Cert.Gather
-- ==== Proof.Rows.lean ====
/-
  The result's rows: what each load and store of a whole buffer or of a block of rows does, and that every block the kernel
  stores is the block of the result at its rows.
-/
module

public import proofs.«01_k».proof.Proof.Steps
public import Idealize.ShloMosaic.Lib.WritesUnit

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Loads of a whole buffer -/

theorem step_load_x (c : Dev nD) {α : Type} {Q : α → sProp 𝕄} {k : (S512x2048.Idx → Elt F .bf16) → Prog (TpuEff nD τ sig (Elt F) Λ₀ .tc) α}
    {h : ∀ a, (![0, 0] : Fin 2 → ℕ) a + S512x2048.size a ≤ S512x2048.size a} {hl : xM.view.LoadsAt (Rect.unit (s := S512x2048) ![0, 0] S512x2048.size h).toLoadRect}
    (q : PosShare TreeShare) (f : S512x2048.Idx → Elt F .bf16) :
    (((c : Thread nD τ).loc cc0_stg0_0) ↦{q} f : sProp 𝕄)
      ⊢ iprop(((((c : Thread nD τ).loc cc0_stg0_0) ↦{q} f) -∗ wp frame (wpE (defs₀ (F := F)) 𝒱₀ (c : Thread nD τ) none) Set.univ (k f) Q)
          -∗ wp frame (wpE (defs₀ (F := F)) 𝒱₀ (c : Thread nD τ) none) Set.univ (.op (.load xM (Rect.unit (s := S512x2048) ![0, 0] S512x2048.size h).toLoadRect hl) k) Q) := by
  iintro H Hk
  iapply (wp_load 𝒱₀ (c : Thread nD τ) none Set.univ (m := xM) (q := q) (f := f) (Finset.subset_univ _)) $$ H
  rw [show xM.view.readAt (Elt F) (Rect.unit (s := S512x2048) ![0, 0] S512x2048.size h).toLoadRect f = f from Memref.readAt_unit_zero (Elt F) cc0_stg0_0 (by decide) h f]
  iintro H; iapply Hk; iexact H

theorem step_load_w (c : Dev nD) {α : Type} {Q : α → sProp 𝕄} {k : (S2048x512.Idx → Elt F .bf16) → Prog (TpuEff nD τ sig (Elt F) Λ₀ .tc) α}
    {h : ∀ a, (![0, 0] : Fin 2 → ℕ) a + S2048x512.size a ≤ S2048x512.size a} {hl : wM.view.LoadsAt (Rect.unit (s := S2048x512) ![0, 0] S2048x512.size h).toLoadRect}
    (q : PosShare TreeShare) (f : S2048x512.Idx → Elt F .bf16) :
    (((c : Thread nD τ).loc cc0_stg1_0) ↦{q} f : sProp 𝕄)
      ⊢ iprop(((((c : Thread nD τ).loc cc0_stg1_0) ↦{q} f) -∗ wp frame (wpE (defs₀ (F := F)) 𝒱₀ (c : Thread nD τ) none) Set.univ (k f) Q)
          -∗ wp frame (wpE (defs₀ (F := F)) 𝒱₀ (c : Thread nD τ) none) Set.univ (.op (.load wM (Rect.unit (s := S2048x512) ![0, 0] S2048x512.size h).toLoadRect hl) k) Q) := by
  iintro H Hk
  iapply (wp_load 𝒱₀ (c : Thread nD τ) none Set.univ (m := wM) (q := q) (f := f) (Finset.subset_univ _)) $$ H
  rw [show wM.view.readAt (Elt F) (Rect.unit (s := S2048x512) ![0, 0] S2048x512.size h).toLoadRect f = f from Memref.readAt_unit_zero (Elt F) cc0_stg1_0 (by decide) h f]
  iintro H; iapply Hk; iexact H

theorem step_load_own (c : Dev nD) {α : Type} {Q : α → sProp 𝕄} {k : (S2x256x2048.Idx → Elt F .bf16) → Prog (TpuEff nD τ sig (Elt F) Λ₀ .tc) α}
    {hl : ownM.view.LoadsAt rectA.toLoadRect}
    (q : PosShare TreeShare) (f : S2x256x2048.Idx → Elt F .bf16) :
    (((c : Thread nD τ).loc cc0_scratch0) ↦{q} f : sProp 𝕄)
      ⊢ iprop(((((c : Thread nD τ).loc cc0_scratch0) ↦{q} f) -∗ wp frame (wpE (defs₀ (F := F)) 𝒱₀ (c : Thread nD τ) none) Set.univ (k f) Q)
          -∗ wp frame (wpE (defs₀ (F := F)) 𝒱₀ (c : Thread nD τ) none) Set.univ (.op (.load ownM rectA.toLoadRect hl) k) Q) := by
  iintro H Hk
  iapply (wp_load 𝒱₀ (c : Thread nD τ) none Set.univ (m := ownM) (q := q) (f := f) (Finset.subset_univ _)) $$ H
  rw [show ownM.view.readAt (Elt F) rectA.toLoadRect f = f from Memref.readAt_unit_zero (Elt F) cc0_scratch0 (by decide) _ f]
  iintro H; iapply Hk; iexact H

theorem step_store_own (c : Dev nD) {α : Type} {Q : α → sProp 𝕄} {k : PUnit → Prog (TpuEff nD τ sig (Elt F) Λ₀ .tc) α}
    {v : S2x256x2048.Idx → Elt F .bf16} {hx : (ownM.access rectA).Stores Finset.univ} {hm : Finset.univ = Finset.univ ∨ ∀ a, rectA.stride a = 1}
    (f : S2x256x2048.Idx → Elt F .bf16) :
    (((c : Thread nD τ).loc cc0_scratch0) ↦{fullShare} f : sProp 𝕄)
      ⊢ iprop(((((c : Thread nD τ).loc cc0_scratch0) ↦{fullShare} v) -∗ wp frame (wpE (defs₀ (F := F)) 𝒱₀ (c : Thread nD τ) none) Set.univ (k ⟨⟩) Q)
          -∗ wp frame (wpE (defs₀ (F := F)) 𝒱₀ (c : Thread nD τ) none) Set.univ (.op (.store ownM rectA v Finset.univ hx hm) k) Q) := by
  iintro H Hk
  iapply (wp_store 𝒱₀ (c : Thread nD τ) none Set.univ (m := ownM) (r := rectA) (Mk := Finset.univ) (f := f) (Finset.subset_univ _)) $$ H
  rw [show (ownM.access rectA).write (Elt F) f v Finset.univ = v from
    Memref.write_access_unit_zero_univ (Elt F) cc0_scratch0 (by decide) _ f v]
  iintro H; iapply Hk; iexact H

/-! ## The result's buffer -/

/-- The result's buffer with the rows `J` holding the result. -/
def filled (c : Dev nD) (J : ℕ → Prop) : sProp 𝕄 :=
  iprop(∃ f : S2048x512.Idx → Elt F .bf16, ⌜∀ i : S2048x512.Idx, J (i 0).val → f i = outAt m c i⌝ ∗ (((c : Thread nD τ).loc cc0_stg2_0) ↦{fullShare} f))

theorem filled_none (c : Dev nD) (f : S2048x512.Idx → Elt F .bf16) :
    (((c : Thread nD τ).loc cc0_stg2_0) ↦{fullShare} f : sProp 𝕄) ⊢ filled m c (fun _ => False) := by
  unfold filled; iintro H; iexists f; isplitr
  · ipureintro; exact fun _ h => h.elim
  · iexact H

theorem filled_all (c : Dev nD) (J : ℕ → Prop) (h : ∀ r, r < 2048 → J r) :
    filled m c J ⊢ (((c : Thread nD τ).loc cc0_stg2_0) ↦{fullShare} outAt m c : sProp 𝕄) := by
  unfold filled; iintro ⟨%f, %hf, H⟩
  rw [show f = outAt m c from funext fun i => hf i (h _ (i 0).isLt)]
  iexact H

/-- A load from the result's buffer, whose value the kernel does not use. -/
theorem step_load_out (c : Dev nD) {α : Type} {Q : α → sProp 𝕄} (J : ℕ → Prop) {r : LoadRect S2048x512} {hl : oM.view.LoadsAt r}
    {k : (r.shape.Idx → Elt F .bf16) → Prog (TpuEff nD τ sig (Elt F) Λ₀ .tc) α} {p : Prog (TpuEff nD τ sig (Elt F) Λ₀ .tc) α} (hk : ∀ v, k v = p) :
    filled m c J
      ⊢ iprop((filled m c J -∗ wp frame (wpE (defs₀ (F := F)) 𝒱₀ (c : Thread nD τ) none) Set.univ p Q)
          -∗ wp frame (wpE (defs₀ (F := F)) 𝒱₀ (c : Thread nD τ) none) Set.univ (.op (.load oM r hl) k) Q) := by
  unfold filled
  iintro ⟨%f, %hf, H⟩ Hk
  iapply (wp_load 𝒱₀ (c : Thread nD τ) none Set.univ (m := oM) (f := f) (Finset.subset_univ _)) $$ H
  iintro H
  rw [hk]
  iapply Hk
  iexists f; isplitr
  · ipureintro; exact hf
  · iexact H

/-- A store of a block of rows that are the result's. -/
theorem step_store_rows (c : Dev nD) {α : Type} {Q : α → sProp 𝕄} {k : PUnit → Prog (TpuEff nD τ sig (Elt F) Λ₀ .tc) α}
    (J : ℕ → Prop) (n o : ℕ) {off : Fin 2 → ℕ} {h : ∀ a, off a + (![n, 512] : Fin 2 → ℕ) a ≤ S2048x512.size a}
    {v : (Rect.unit (s := S2048x512) off ![n, 512] h).shape.Idx → Elt F .bf16}
    {hx : (oM.access (Rect.unit (s := S2048x512) off ![n, 512] h)).Stores Finset.univ} {hm : Finset.univ = Finset.univ ∨ ∀ a, (Rect.unit (s := S2048x512) off ![n, 512] h).stride a = 1}
    (hoff : off = ![o, 0])
    (hv : ∀ (j : (Rect.unit (s := S2048x512) off ![n, 512] h).shape.Idx) (i : S2048x512.Idx), (i 0).val = o + (j (0 : Fin 2)).val → (i 1).val = (j (1 : Fin 2)).val → v j = outAt m c i) :
    filled m c J
      ⊢ iprop((filled m c (fun r => J r ∨ (o ≤ r ∧ r < o + n)) -∗ wp frame (wpE (defs₀ (F := F)) 𝒱₀ (c : Thread nD τ) none) Set.univ (k ⟨⟩) Q)
          -∗ wp frame (wpE (defs₀ (F := F)) 𝒱₀ (c : Thread nD τ) none) Set.univ
              (.op (.store oM (Rect.unit (s := S2048x512) off ![n, 512] h) v Finset.univ hx hm) k) Q) := by
  unfold filled
  iintro ⟨%f, %hf, H⟩ Hk
  iapply (wp_store 𝒱₀ (c : Thread nD τ) none Set.univ (m := oM) (r := Rect.unit (s := S2048x512) off ![n, 512] h) (Mk := Finset.univ) (f := f) (Finset.subset_univ _)) $$ H
  iintro H
  iapply Hk
  iexists _; isplitr
  swap
  · iexact H
  · ipureintro
    intro i hi
    have e := View.read_writes_cons_rows (v := oM.view) (f := f) (Val := Elt F) (W := n) h v [] i hoff rfl rfl
    refine (show _ = oM.view.read (Elt F) (oM.view.writes (Elt F) f [⟨Rect.unit (s := S2048x512) off ![n, 512] h, v⟩]) i from rfl).trans (e.trans ?_)
    split
    · rename_i hr
      subst hoff
      refine hv _ i ?_ ?_
      · show (i 0).val = o + ((i 0).val - o); omega
      · show (i 1).val = (i 1).val - 0; omega
    · rename_i hr
      exact hf i (hi.resolve_right hr)

/-! ## Every stored block is the result's -/

theorem pay4_up (X : S256x2048.Idx → Elt F .bf16) (w : S2048x512.Idx → Elt F .bf16) : k0_pay4 (up X) w = rowsDot X w := by
  show k0_pay7 (shapeCast S256x2048 (up X) shapeCasts_S1x256x2048_S256x2048) _ _ = _
  rw [cast_up]; rfl
theorem pay8_up (X : S256x2048.Idx → Elt F .bf16) (w : S2048x512.Idx → Elt F .bf16) : k0_pay8 (up X) w = rowsDot X w := pay4_up X w
theorem pay9_up (X : S256x2048.Idx → Elt F .bf16) (w : S2048x512.Idx → Elt F .bf16) : k0_pay9 (up X) w = rowsDot X w := pay4_up X w
theorem pay10_up (X : S256x2048.Idx → Elt F .bf16) (w : S2048x512.Idx → Elt F .bf16) : k0_pay10 (up X) w = rowsDot X w := pay4_up X w
theorem pay11_up (X : S256x2048.Idx → Elt F .bf16) (w : S2048x512.Idx → Elt F .bf16) : k0_pay11 (up X) w = rowsDot X w := pay4_up X w
theorem pay5_up (X : S256x2048.Idx → Elt F .bf16) : k0_pay5 (up X) = X := cast_up X

section Blocks
variable (c p : Dev nD)

/-- The result at a row of device `p`. -/
theorem outAt_row (i : S2048x512.Idx) (r j : Fin 512) (h0 : (i 0).val = 512 * p.val + r.val) (h1 : (i 1).val = j.val) :
    outAt m c i = outRow m c p r j := by
  have hr := r.isLt
  unfold outAt
  congr 1
  · apply Fin.ext; show (i 0).val / 512 = p.val; omega
  · apply Fin.ext; show (i 0).val % 512 = r.val; omega
  · exact Fin.ext h1

theorem own_block (j : S512x512.Idx) (i : S2048x512.Idx) (h0 : (i 0).val = 512 * c.val + (j 0).val) (h1 : (i 1).val = (j 1).val) :
    k0_pay3 (k0_pay2 (ownAt m c)) (wAt m c) j = outAt m c i := by
  rw [outAt_row m c c i (j 0) (j 1) h0 h1]
  unfold outRow; rw [if_pos rfl]
  congr 1; funext a; fin_cases a <;> rfl

theorem lo_block (hp : p ≠ c) (j : S256x512.Idx) (i : S2048x512.Idx) (h0 : (i 0).val = 512 * p.val + (j 0).val) (h1 : (i 1).val = (j 1).val) :
    rowsDot (lo m p) (wAt m c) j = outAt m c i := by
  have hj : (j 0).val < 256 := (j 0).isLt
  rw [outAt_row m c p i ⟨(j 0).val, by omega⟩ (j 1) h0 h1]
  unfold outRow; rw [if_neg hp, dif_pos hj]
  congr 1; funext a; fin_cases a <;> rfl

theorem hi_block (hp : p ≠ c) (j : S256x512.Idx) (i : S2048x512.Idx) (h0 : (i 0).val = 512 * p.val + 256 + (j 0).val) (h1 : (i 1).val = (j 1).val) :
    rowsDot (hi m p) (wAt m c) j = outAt m c i := by
  have hj : (j 0).val < 256 := (j 0).isLt
  rw [outAt_row m c p i ⟨256 + (j 0).val, by omega⟩ (j 1) (by show (i 0).val = 512 * p.val + (256 + (j 0).val); omega) h1]
  unfold outRow; rw [if_neg hp, dif_neg (by show ¬ (256 + (j 0).val < 256); omega)]
  congr 1; funext a; fin_cases a
  · apply Fin.ext; show (j 0).val = 256 + (j 0).val - 256; omega
  · rfl

end Blocks

end Cert.Gather
-- ==== Proof.Parts.lean ====
/-
  The kernel's text part by part: what each part needs and what it leaves.
-/
module

public import proofs.«01_k».proof.Proof.Rows

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What travels through the parts -/

/-- The share of its source that transfer `t` takes. -/
def source (t : Fin 6) (c : Dev nD) : sProp 𝕄 := owns (c : Thread nD τ) (srcM t) (lent t) (sent m t c)
/-- What else it takes: its place at the receiver, and the two duties it pays. -/
def lane (t : Fin 6) (c : Dev nD) : sProp 𝕄 :=
  iprop(slot (dstM t) (dest t c) ∗ dutyTok ER (sendCell t c) 0 false ∗ dutyTok ER (recvCell t (dest t c)) 0 false)
/-- What the wait for an arrival takes. -/
def pending (t : Fin 6) (c : Dev nD) : sProp 𝕄 := iprop(cred (tallyAt (recvCell t c) () N) ∗ atPos ER (recvCell t c) 0 ∅ 0)
/-- What the wait for a departure takes. -/
def leaving (t : Fin 6) (c : Dev nD) : sProp 𝕄 := iprop(cred (tallyAt (sendCell t c) () N) ∗ atPos ER (sendCell t c) 0 ∅ 0)

theorem credit_dst (t : Fin 6) : (dstM t).view.dmaCredit = N := by fin_cases t <;> rfl
theorem credit_src (t : Fin 6) : (srcM t).view.dmaCredit = N := by fin_cases t <;> rfl

theorem lane_intro (t : Fin 6) (c : Dev nD) :
    iprop(slot (dstM t) (dest t c) ∗ dutyTok ER (sendCell t c) 0 false ∗ dutyTok ER (recvCell t (dest t c)) 0 false) ⊢ (lane t c : sProp 𝕄) := by
  unfold lane; iintro H; iexact H

/-- The places a barrier brings: three on the right neighbour, three on the left. -/
theorem places_right (c : Dev nD) :
    (barPay true c : sProp 𝕄) ⊢ iprop(slot (dstM 0) (dest 0 c) ∗ slot (dstM 1) (dest 1 c) ∗ slot (dstM 2) (dest 2 c)) := by
  exact Entails.of_eq rfl
theorem places_left (c : Dev nD) :
    (barPay false c : sProp 𝕄) ⊢ iprop(slot (dstM 3) (dest 3 c) ∗ slot (dstM 4) (dest 4 c) ∗ slot (dstM 5) (dest 5 c)) := by
  exact Entails.of_eq rfl

/-- The device's own rows: half of them stays for the product, the other half is lent to the four transfers. -/
theorem own_lends (c : Dev nD) :
    (((c : Thread nD τ).loc cc0_scratch0) ↦{fullShare} k0_pay1 (xAt m c) : sProp 𝕄)
      ⊢ iprop((((c : Thread nD τ).loc cc0_scratch0) ↦{fullShare.left} ownAt m c) ∗ source m 0 c ∗ source m 1 c ∗ source m 3 c ∗ source m 4 c) := by
  iintro H
  ihave H' := (pointsTo_share (PosShare.mem_left_op_right fullShare)).1 $$ H
  icases H' with ⟨Hl, Hr⟩
  isplitl [Hl]; · iexact Hl
  ihave Hr' := (show (((c : Thread nD τ).loc cc0_scratch0) ↦{fullShare.right} k0_pay1 (xAt m c) : sProp 𝕄)
      ⊢ iprop(owns (c : Thread nD τ) (h0 ownM) fullShare.right (lo m c) ∗ owns (c : Thread nD τ) (h1 ownM) fullShare.right (hi m c)) by
    have h := whole_halves c ownM fullShare.right (ownAt m c)
    rwa [show ownM.view.set = Finset.univ from View.set_whole _] at h) $$ Hr
  icases Hr' with ⟨H0, H1⟩
  ihave H0' := (owns_share c (h0 ownM) fullShare.right (lo m c)) $$ H0
  icases H0' with ⟨H01, H03⟩
  ihave H1' := (owns_share c (h1 ownM) fullShare.right (hi m c)) $$ H1
  icases H1' with ⟨H10, H14⟩
  unfold source
  isplitl [H10]; · iexact H10
  isplitl [H01]; · iexact H01
  isplitl [H03]; · iexact H03
  iexact H14

theorem arrived_two (c : Dev nD) : arrived m 2 c = hi m (acr c) := by
  show hi m (lft (lft c)) = _; rw [lft_lft]
theorem arrived_five (c : Dev nD) : arrived m 5 c = lo m (acr c) := by
  show lo m (rgt (rgt c)) = _; rw [rgt_rgt]

theorem lft_ne (c : Dev nD) : lft c ≠ c := by revert c; decide
theorem rgt_ne (c : Dev nD) : rgt c ≠ c := by revert c; decide
theorem acr_ne (c : Dev nD) : acr c ≠ c := by revert c; decide

/-! ## The rows stored so far -/

/-- The blocks of rows in the order in which they are stored: first row and number of rows. -/
def blockOf (c : Dev nD) (n : ℕ) : ℕ × ℕ :=
  match n with
  | 0 => (512 * c.val, 512) | 1 => (512 * (lft c).val + 256, 256) | 2 => (512 * (rgt c).val, 256) | 3 => (512 * (lft c).val, 256)
  | 4 => (512 * (rgt c).val + 256, 256) | 5 => (512 * (acr c).val + 256, 256) | _ => (512 * (acr c).val, 256)
/-- The rows of the first `n` blocks. -/
def rows (n : ℕ) (c : Dev nD) (r : ℕ) : Prop := ∃ k, k < n ∧ (blockOf c k).1 ≤ r ∧ r < (blockOf c k).1 + (blockOf c k).2

theorem filled_mono (c : Dev nD) (J J' : ℕ → Prop) (h : ∀ r, J' r → J r) : filled m c J ⊢ filled m c J' := by
  unfold filled; iintro ⟨%f, %hf, H⟩; iexists f; isplitr
  · ipureintro; exact fun i hi => hf i (h _ hi)
  · iexact H

theorem rows_zero (c : Dev nD) (r : ℕ) (h : rows 0 c r) : False := by
  obtain ⟨k, hk, -⟩ := h; omega
theorem rows_succ (n : ℕ) (c : Dev nD) (J : ℕ → Prop) (h : ∀ r, rows n c r → J r) (r : ℕ) (hr : rows (n + 1) c r) :
    J r ∨ ((blockOf c n).1 ≤ r ∧ r < (blockOf c n).1 + (blockOf c n).2) := by
  obtain ⟨k, hk, h'⟩ := hr
  rcases Nat.lt_succ_iff_lt_or_eq.1 hk with hk | rfl
  · exact .inl (h r ⟨k, hk, h'⟩)
  · exact .inr h'

/-- All seven blocks are all the rows. -/
theorem rows_all (c : Dev nD) (r : ℕ) (hr : r < 2048) : rows 7 c r := by
  have h4 : ∀ c p : Dev nD, p = c ∨ p = lft c ∨ p = rgt c ∨ p = acr c := by decide
  have hb : r / 512 < nD := by show r / 512 < 4; omega
  have hd : 512 * (r / 512) ≤ r ∧ r < 512 * (r / 512) + 512 := by omega
  rcases h4 c ⟨r / 512, hb⟩ with h | h | h | h <;> have hv := congrArg Fin.val h <;> simp only at hv
  · exact ⟨0, by omega, by show 512 * c.val ≤ r; omega, by show r < 512 * c.val + 512; omega⟩
  · by_cases hh : 512 * (lft c).val + 256 ≤ r
    · exact ⟨1, by omega, hh, by show r < 512 * (lft c).val + 256 + 256; omega⟩
    · exact ⟨3, by omega, by show 512 * (lft c).val ≤ r; omega, by show r < 512 * (lft c).val + 256; omega⟩
  · by_cases hh : 512 * (rgt c).val + 256 ≤ r
    · exact ⟨4, by omega, hh, by show r < 512 * (rgt c).val + 256 + 256; omega⟩
    · exact ⟨2, by omega, by show 512 * (rgt c).val ≤ r; omega, by show r < 512 * (rgt c).val + 256; omega⟩
  · by_cases hh : 512 * (acr c).val + 256 ≤ r
    · exact ⟨5, by omega, hh, by show r < 512 * (acr c).val + 256 + 256; omega⟩
    · exact ⟨6, by omega, by show 512 * (acr c).val ≤ r; omega, by show r < 512 * (acr c).val + 256; omega⟩

/-! ## The parts -/

section Parts
variable (K : Dev nD × Fin 13 → ℕ)

/-- The device's rows are stored, its neighbours told that its landing buffers are free, and theirs awaited; the first transfer starts. -/
theorem part2_runs (c : Dev nD) (v13 v24 : BitVec 32) {Q : PUnit → sProp 𝕄} :
    iprop(records m K
        ∗ levAts L lv
        ∗ cred (tallyAt (barCell c) () 2)
        ∗ owed c (O₀ c)
        ∗ atPos ER (barCell c) 0 ∅ 0
        ∗ dutyTok ER (barCell (lft c)) 0 true
        ∗ dutyTok ER (barCell (rgt c)) 0 false
        ∗ dutyTok ER (sendCell 0 c) 0 false
        ∗ dutyTok ER (recvCell 0 (dest 0 c)) 0 false
        ∗ (((c : Thread nD τ).loc cc0_stg0_0) ↦{fullShare} xAt m c)
        ∗ (∃ f : S2x256x2048.Idx → Elt F .bf16, ((c : Thread nD τ).loc cc0_scratch0) ↦{fullShare} f)
        ∗ barPay true (lft c)
        ∗ barPay false (rgt c))
      ⊢ iprop((iprop(owed c (((due25 c + due 4 c) + due 1 c) + due 3 c)
        ∗ atPos ER (barCell c) 1 ∅ 0
        ∗ (((c : Thread nD τ).loc cc0_stg0_0) ↦{fullShare} xAt m c)
        ∗ (((c : Thread nD τ).loc cc0_scratch0) ↦{fullShare.left} ownAt m c)
        ∗ source m 1 c
        ∗ source m 3 c
        ∗ source m 4 c
        ∗ cred (tallyAt (sendCell 0 c) () N)
        ∗ slot (F := F) (dstM 1) (dest 1 c)
        ∗ slot (F := F) (dstM 2) (dest 2 c)
        ∗ slot (F := F) (dstM 3) (dest 3 c)
        ∗ slot (F := F) (dstM 4) (dest 4 c)
        ∗ slot (F := F) (dstM 5) (dest 5 c)) -∗ Q ⟨⟩)
          -∗ run c (k0_part2 xM (Memref.isWhole_whole _) wM (Memref.isWhole_whole _) oM (Memref.isWhole_whole _) ownM (Memref.isWhole_whole _) lM (Memref.isWhole_whole _) rM (Memref.isWhole_whole _) dM (Memref.isWhole_whole _) cc0_scratch4 cc0_scratch5 c v13 v24) Q) := by
  rw [k0_part2_eq_skeleton]
  unfold k0_part2_skel run
  simp only [semSignalWord, semWaitWord, Prog.lift, Prog.bind_op, Prog.bind_ret, Prog.pure_eq_ret]
  iintro ⟨#HR, #HL, Hcb, HO, Hab, Ht1, Ht2, Hts, Htr, Hx, ⟨%f, Hown⟩, Hl, Hr⟩ Hk
  iapply (step_load_x c fullShare (xAt m c)) $$ Hx; iintro Hx
  iapply (step_load_own c fullShare f) $$ Hown; iintro Hown
  iapply (step_store_own c f) $$ Hown; iintro Hown
  iapply (step_signal m K c true (lft c) _ (dev1_eq c) rfl (by decide) (due6 c + tallyAt (barCell (rgt c)) () 1)) $$ [HO Ht1 Hl]
  · isplitr; · iexact HR
    isplitl [HO]; · unfold O₀; iexact HO
    isplitl [Ht1] <;> iassumption
  iintro HO
  iapply (step_signal m K c false (rgt c) _ (dev2_eq c) rfl (by decide) (due6 c)) $$ [HO Ht2 Hr]
  · isplitr; · iexact HR
    isplitl [HO]; · iexact HO
    isplitl [Ht2] <;> iassumption
  iintro HO
  iapply (step_barrier m K c rfl (by decide) (due6 c) (above_due6 c)) $$ [Hcb HO Hab]
  · isplitr; · iexact HR
    isplitr; · iexact HL
    isplitl [Hcb]; · iexact Hcb
    isplitl [HO] <;> iassumption
  iintro ⟨HO, Hab, Hl, Hr⟩
  ihave Hl' := (places_right c) $$ Hl
  icases Hl' with ⟨Hd0, Hd1, Hd2⟩
  ihave Hr' := (places_left c) $$ Hr
  icases Hr' with ⟨Hd3, Hd4, Hd5⟩
  ihave Hown' := (own_lends m c) $$ Hown
  icases Hown' with ⟨Hown, Hs0, Hs1, Hs3, Hs4⟩
  ihave Ha0 := (lane_intro 0 c) $$ [Hd0 Hts Htr]
  · isplitl [Hd0]; · iexact Hd0
    isplitl [Hts] <;> iassumption
  iapply (step_send m K c 0 _ (dev3_eq c) rfl rfl rfl rfl (((due25 c + due 4 c) + due 1 c) + due 3 c)) $$ [Hs0 Ha0 HO]
  · isplitr; · iexact HR
    isplitl [Hs0]; · unfold source; iexact Hs0
    unfold lane; icases Ha0 with ⟨H1, H2, H3⟩
    isplitl [H1]; · iexact H1
    isplitl [HO]; · iexact HO
    isplitl [H2] <;> iassumption
  iintro ⟨Hc0, HO⟩
  rw [wp_ret]; imodintro; iapply Hk
  isplitl [HO]; · iexact HO
  isplitl [Hab]; · iexact Hab
  isplitl [Hx]; · iexact Hx
  isplitl [Hown]; · iexact Hown
  isplitl [Hs1]; · iexact Hs1
  isplitl [Hs3]; · iexact Hs3
  isplitl [Hs4]; · iexact Hs4
  isplitl [Hc0]; · iexact Hc0
  isplitl [Hd1]; · iexact Hd1
  isplitl [Hd2]; · iexact Hd2
  isplitl [Hd3]; · iexact Hd3
  isplitl [Hd4]; · iexact Hd4
  iexact Hd5

/-- Three more transfers of the device's own rows start. -/
theorem part3_runs (c : Dev nD) (v13 v24 : BitVec 32) {Q : (Σ' (v88 : FVec F S512x2048 .bf16), Vec F S2048x512 .bf16) → sProp 𝕄} :
    iprop(records m K
        ∗ owed c (((due25 c + due 4 c) + due 1 c) + due 3 c)
        ∗ source m 1 c
        ∗ source m 3 c
        ∗ source m 4 c
        ∗ lane 1 c
        ∗ lane 3 c
        ∗ lane 4 c
        ∗ (((c : Thread nD τ).loc cc0_scratch0) ↦{fullShare.left} ownAt m c)
        ∗ (((c : Thread nD τ).loc cc0_stg1_0) ↦{fullShare} wAt m c))
      ⊢ iprop((iprop(owed c (due25 c)
        ∗ cred (tallyAt (sendCell 1 c) () N)
        ∗ cred (tallyAt (sendCell 3 c) () N)
        ∗ cred (tallyAt (sendCell 4 c) () N)
        ∗ (((c : Thread nD τ).loc cc0_scratch0) ↦{fullShare.left} ownAt m c)
        ∗ (((c : Thread nD τ).loc cc0_stg1_0) ↦{fullShare} wAt m c)) -∗ Q ⟨k0_pay2 (ownAt m c), wAt m c⟩)
          -∗ run c (k0_part3 xM (Memref.isWhole_whole _) wM (Memref.isWhole_whole _) oM (Memref.isWhole_whole _) ownM (Memref.isWhole_whole _) lM (Memref.isWhole_whole _) rM (Memref.isWhole_whole _) dM (Memref.isWhole_whole _) cc0_scratch4 cc0_scratch5 c v13 v24) Q) := by
  rw [k0_part3_eq_skeleton]
  unfold k0_part3_skel run
  simp only [semSignalWord, semWaitWord, Prog.lift, Prog.bind_op, Prog.bind_ret, Prog.pure_eq_ret]
  iintro ⟨#HR, HO, Hs1, Hs3, Hs4, Ha1, Ha3, Ha4, Hown, Hw⟩ Hk
  iapply (step_send m K c 3 _ (dev4_eq c) rfl rfl rfl rfl ((due25 c + due 4 c) + due 1 c)) $$ [Hs3 Ha3 HO]
  · isplitr; · iexact HR
    isplitl [Hs3]; · unfold source; iexact Hs3
    unfold lane; icases Ha3 with ⟨H1, H2, H3⟩
    isplitl [H1]; · iexact H1
    isplitl [HO]; · iexact HO
    isplitl [H2] <;> iassumption
  iintro ⟨Hc3, HO⟩
  iapply (step_send m K c 1 _ (dev5_eq c) rfl rfl rfl rfl (due25 c + due 4 c)) $$ [Hs1 Ha1 HO]
  · isplitr; · iexact HR
    isplitl [Hs1]; · unfold source; iexact Hs1
    unfold lane; icases Ha1 with ⟨H1, H2, H3⟩
    isplitl [H1]; · iexact H1
    isplitl [HO]; · iexact HO
    isplitl [H2] <;> iassumption
  iintro ⟨Hc1, HO⟩
  iapply (step_send m K c 4 _ (dev6_eq c) rfl rfl rfl rfl (due25 c)) $$ [Hs4 Ha4 HO]
  · isplitr; · iexact HR
    isplitl [Hs4]; · unfold source; iexact Hs4
    unfold lane; icases Ha4 with ⟨H1, H2, H3⟩
    isplitl [H1]; · iexact H1
    isplitl [HO]; · iexact HO
    isplitl [H2] <;> iassumption
  iintro ⟨Hc4, HO⟩
  iapply (step_load_own c fullShare.left (ownAt m c)) $$ Hown; iintro Hown
  iapply (step_load_w c fullShare (wAt m c)) $$ Hw; iintro Hw
  rw [wp_ret]; imodintro; iapply Hk
  isplitl [HO]; · iexact HO
  isplitl [Hc1]; · iexact Hc1
  isplitl [Hc3]; · iexact Hc3
  isplitl [Hc4]; · iexact Hc4
  isplitl [Hown]; · iexact Hown
  iexact Hw

/-- The device's own rows are multiplied; the first rows arrive from the left and are passed on. -/
theorem part4_runs (c : Dev nD) (v2 v13 v24 : BitVec 32) {Q : PUnit → sProp 𝕄} :
    iprop(records m K
        ∗ levAts L lv
        ∗ owed c (due25 c)
        ∗ filled m c (fun _ => False)
        ∗ pending 0 c
        ∗ lane 2 c)
      ⊢ iprop((iprop(owed c (0 + due 5 c)
        ∗ filled m c (rows 1 c)
        ∗ atPos ER (recvCell 0 c) 1 ∅ 0
        ∗ cred (tallyAt (sendCell 2 c) () N)
        ∗ owns (c : Thread nD τ) (h1 lM) fullShare.right (arrived m 0 c)) -∗ Q ⟨⟩)
          -∗ run c (k0_part4 xM (Memref.isWhole_whole _) wM (Memref.isWhole_whole _) oM (Memref.isWhole_whole _) ownM (Memref.isWhole_whole _) lM (Memref.isWhole_whole _) rM (Memref.isWhole_whole _) dM (Memref.isWhole_whole _) cc0_scratch4 cc0_scratch5 c v2 v13 v24 (k0_pay2 (ownAt m c)) (wAt m c)) Q) := by
  rw [k0_part4_eq_skeleton]
  unfold k0_part4_skel run
  simp only [semSignalWord, semWaitWord, Prog.lift, Prog.bind_op, Prog.bind_ret, Prog.pure_eq_ret]
  iintro ⟨#HR, #HL, HO, Hf, Hp0, Ha2⟩ Hk
  iapply (step_load_out m c _ (fun _ => rfl)) $$ Hf; iintro Hf
  iapply (step_store_rows m c _ 512 (512 * c.val) (k0_off1_eq c) (own_block m c)) $$ Hf; iintro Hf
  iapply (step_arrive m K c 0 (due25 c) 2 (by decide) (above_due25 c) rfl (credit_dst 0)) $$ [Hp0 HO]
  · unfold pending; icases Hp0 with ⟨H1, H2⟩
    isplitr; · iexact HR
    isplitr; · iexact HL
    isplitl [H1]; · iexact H1
    isplitl [HO] <;> iassumption
  iintro ⟨HO, Hz0, Hb0⟩
  ihave Hb0' := (owns_share c (dstM 0) fullShare (arrived m 0 c)) $$ Hb0
  icases Hb0' with ⟨Hs2, Hb0⟩
  iapply (step_send m K c 2 _ (dev7_eq c) rfl rfl rfl rfl (0 + due 5 c)) $$ [Hs2 Ha2 HO]
  · isplitr; · iexact HR
    isplitl [Hs2]; · iexact Hs2
    unfold lane; icases Ha2 with ⟨H1, H2, H3⟩
    isplitl [H1]; · iexact H1
    isplitl [HO]; · iexact HO
    isplitl [H2] <;> iassumption
  iintro ⟨Hc2, HO⟩
  rw [wp_ret]; imodintro; iapply Hk
  isplitl [HO]; · iexact HO
  isplitl [Hf]; · iapply (filled_mono m c _ _ (rows_succ 0 c _ (fun r => rows_zero c r))); iexact Hf
  isplitl [Hz0]; · iexact Hz0
  isplitl [Hc2]; · iexact Hc2
  iexact Hb0

/-- The first rows arrive from the right and are passed on; those from the left are multiplied. -/
theorem part5_runs (c : Dev nD) (v13 : BitVec 32) {Q : (Σ' (v143 : FVec F S256x2048 .bf16) (v145 : FVec F S2048x512 .bf16), FVec F S256x512 .f32) → sProp 𝕄} :
    iprop(records m K
        ∗ levAts L lv
        ∗ owed c (0 + due 5 c)
        ∗ filled m c (rows 1 c)
        ∗ pending 3 c
        ∗ lane 5 c
        ∗ owns (c : Thread nD τ) (h1 lM) fullShare.right (arrived m 0 c)
        ∗ (((c : Thread nD τ).loc cc0_stg1_0) ↦{fullShare} wAt m c))
      ⊢ iprop((iprop(owed c (0)
        ∗ filled m c (rows 2 c)
        ∗ atPos ER (recvCell 3 c) 1 ∅ 0
        ∗ cred (tallyAt (sendCell 5 c) () N)
        ∗ owns (c : Thread nD τ) (h1 lM) fullShare.right (arrived m 0 c)
        ∗ owns (c : Thread nD τ) (h0 rM) fullShare.right (arrived m 3 c)
        ∗ (((c : Thread nD τ).loc cc0_stg1_0) ↦{fullShare} wAt m c)) -∗ Q ⟨k0_pay5 (up (arrived m 3 c)), k0_pay6 (wAt m c), constant S256x512 .f32 0x00000000#32⟩)
          -∗ run c (k0_part5 xM (Memref.isWhole_whole _) wM (Memref.isWhole_whole _) oM (Memref.isWhole_whole _) ownM (Memref.isWhole_whole _) lM (Memref.isWhole_whole _) rM (Memref.isWhole_whole _) dM (Memref.isWhole_whole _) cc0_scratch4 cc0_scratch5 c v13) Q) := by
  rw [k0_part5_eq_skeleton]
  unfold k0_part5_skel run
  simp only [semSignalWord, semWaitWord, Prog.lift, Prog.bind_op, Prog.bind_ret, Prog.pure_eq_ret]
  iintro ⟨#HR, #HL, HO, Hf, Hp3, Ha5, Hb0, Hw⟩ Hk
  iapply (step_arrive m K c 3 (0 + due 5 c) 2 (by decide) (above_due5 c) rfl (credit_dst 3)) $$ [Hp3 HO]
  · unfold pending; icases Hp3 with ⟨H1, H2⟩
    isplitr; · iexact HR
    isplitr; · iexact HL
    isplitl [H1]; · iexact H1
    isplitl [HO] <;> iassumption
  iintro ⟨HO, Hz3, Hb3⟩
  ihave Hb3' := (owns_share c (dstM 3) fullShare (arrived m 3 c)) $$ Hb3
  icases Hb3' with ⟨Hs5, Hb3⟩
  iapply (step_send m K c 5 _ (dev8_eq c) rfl rfl rfl rfl 0) $$ [Hs5 Ha5 HO]
  · isplitr; · iexact HR
    isplitl [Hs5]; · iexact Hs5
    unfold lane; icases Ha5 with ⟨H1, H2, H3⟩
    isplitl [H1]; · iexact H1
    isplitl [HO]; · iexact HO
    isplitl [H2] <;> iassumption
  iintro ⟨Hc5, HO⟩
  iapply (step_load_h1 c lM fullShare.right (arrived m 0 c)) $$ Hb0; iintro Hb0
  iapply (step_load_w c fullShare (wAt m c)) $$ Hw; iintro Hw
  iapply (step_load_out m c _ (fun _ => rfl)) $$ Hf; iintro Hf
  iapply (step_store_rows m c _ 256 (512 * (lft c).val + 256) (off2_eq c) (by rw [pay4_up]; exact hi_block m c (lft c) (lft_ne c))) $$ Hf; iintro Hf
  iapply (step_load_h0 c rM fullShare.right (arrived m 3 c)) $$ Hb3; iintro Hb3
  iapply (step_load_w c fullShare (wAt m c)) $$ Hw; iintro Hw
  rw [wp_ret]; imodintro; iapply Hk
  isplitl [HO]; · iexact HO
  isplitl [Hf]; · iapply (filled_mono m c _ _ (rows_succ 1 c _ (fun _ h => h))); iexact Hf
  isplitl [Hz3]; · iexact Hz3
  isplitl [Hc5]; · iexact Hc5
  isplitl [Hb0]; · iexact Hb0
  isplitl [Hb3]; · iexact Hb3
  iexact Hw

/-- The rows from the right are multiplied; the left neighbour's other rows arrive and are multiplied. -/
theorem part6_runs (c : Dev nD) (v13 v24 : BitVec 32) {Q : PUnit → sProp 𝕄} :
    iprop(records m K
        ∗ levAts L lv
        ∗ owed c (0)
        ∗ filled m c (rows 2 c)
        ∗ pending 1 c
        ∗ (((c : Thread nD τ).loc cc0_stg1_0) ↦{fullShare} wAt m c))
      ⊢ iprop((iprop(owed c (0)
        ∗ filled m c (rows 4 c)
        ∗ atPos ER (recvCell 1 c) 1 ∅ 0
        ∗ owns (c : Thread nD τ) (h0 lM) fullShare (arrived m 1 c)
        ∗ (((c : Thread nD τ).loc cc0_stg1_0) ↦{fullShare} wAt m c)) -∗ Q ⟨⟩)
          -∗ run c (k0_part6 xM (Memref.isWhole_whole _) wM (Memref.isWhole_whole _) oM (Memref.isWhole_whole _) ownM (Memref.isWhole_whole _) lM (Memref.isWhole_whole _) rM (Memref.isWhole_whole _) dM (Memref.isWhole_whole _) cc0_scratch4 cc0_scratch5 c v13 v24 (k0_pay5 (up (arrived m 3 c))) (k0_pay6 (wAt m c)) (constant S256x512 .f32 0x00000000#32)) Q) := by
  rw [k0_part6_eq_skeleton]
  unfold k0_part6_skel run
  simp only [semSignalWord, semWaitWord, Prog.lift, Prog.bind_op, Prog.bind_ret, Prog.pure_eq_ret]
  iintro ⟨#HR, #HL, HO, Hf, Hp1, Hw⟩ Hk
  iapply (step_load_out m c _ (fun _ => rfl)) $$ Hf; iintro Hf
  iapply (step_store_rows m c _ 256 (512 * (rgt c).val) (off3_eq1 c) (by rw [pay5_up]; exact lo_block m c (rgt c) (rgt_ne c))) $$ Hf; iintro Hf
  iapply (step_arrive m K c 1 0 2 (by decide) (Above.zero 2) rfl (credit_dst 1)) $$ [Hp1 HO]
  · unfold pending; icases Hp1 with ⟨H1, H2⟩
    isplitr; · iexact HR
    isplitr; · iexact HL
    isplitl [H1]; · iexact H1
    isplitl [HO] <;> iassumption
  iintro ⟨HO, Hz1, Hb1⟩
  iapply (step_load_h0 c lM fullShare (arrived m 1 c)) $$ Hb1; iintro Hb1
  iapply (step_load_w c fullShare (wAt m c)) $$ Hw; iintro Hw
  iapply (step_load_out m c _ (fun _ => rfl)) $$ Hf; iintro Hf
  iapply (step_store_rows m c _ 256 (512 * (lft c).val) (off4_eq c) (by rw [pay8_up]; exact lo_block m c (lft c) (lft_ne c))) $$ Hf; iintro Hf
  rw [wp_ret]; imodintro; iapply Hk
  isplitl [HO]; · iexact HO
  isplitl [Hf]; · iapply (filled_mono m c _ _ (rows_succ 3 c _ (rows_succ 2 c _ (fun _ h => h)))); iexact Hf
  isplitl [Hz1]; · iexact Hz1
  isplitl [Hb1]; · iexact Hb1
  iexact Hw

/-- The right neighbour's other rows arrive and are multiplied; the rows from across arrive by the left. -/
theorem part7_runs (c : Dev nD) (v13 v24 v35 : BitVec 32) {Q : FVec F S256x512 .bf16 → sProp 𝕄} :
    iprop(records m K
        ∗ levAts L lv
        ∗ owed c (0)
        ∗ filled m c (rows 4 c)
        ∗ pending 4 c
        ∗ pending 2 c
        ∗ (((c : Thread nD τ).loc cc0_stg1_0) ↦{fullShare} wAt m c))
      ⊢ iprop((iprop(owed c (0)
        ∗ filled m c (rows 5 c)
        ∗ atPos ER (recvCell 4 c) 1 ∅ 0
        ∗ atPos ER (recvCell 2 c) 1 ∅ 0
        ∗ owns (c : Thread nD τ) (h1 rM) fullShare (arrived m 4 c)
        ∗ owns (c : Thread nD τ) (h1 dM) fullShare (arrived m 2 c)
        ∗ (((c : Thread nD τ).loc cc0_stg1_0) ↦{fullShare} wAt m c)) -∗ Q (k0_pay10 (up (arrived m 2 c)) (wAt m c)))
          -∗ run c (k0_part7 xM (Memref.isWhole_whole _) wM (Memref.isWhole_whole _) oM (Memref.isWhole_whole _) ownM (Memref.isWhole_whole _) lM (Memref.isWhole_whole _) rM (Memref.isWhole_whole _) dM (Memref.isWhole_whole _) cc0_scratch4 cc0_scratch5 c v13 v24 v35) Q) := by
  rw [k0_part7_eq_skeleton]
  unfold k0_part7_skel run
  simp only [semSignalWord, semWaitWord, Prog.lift, Prog.bind_op, Prog.bind_ret, Prog.pure_eq_ret]
  iintro ⟨#HR, #HL, HO, Hf, Hp4, Hp2, Hw⟩ Hk
  iapply (step_arrive m K c 4 0 2 (by decide) (Above.zero 2) rfl (credit_dst 4)) $$ [Hp4 HO]
  · unfold pending; icases Hp4 with ⟨H1, H2⟩
    isplitr; · iexact HR
    isplitr; · iexact HL
    isplitl [H1]; · iexact H1
    isplitl [HO] <;> iassumption
  iintro ⟨HO, Hz4, Hb4⟩
  iapply (step_load_h1 c rM fullShare (arrived m 4 c)) $$ Hb4; iintro Hb4
  iapply (step_load_w c fullShare (wAt m c)) $$ Hw; iintro Hw
  iapply (step_load_out m c _ (fun _ => rfl)) $$ Hf; iintro Hf
  iapply (step_store_rows m c _ 256 (512 * (rgt c).val + 256) (off5_eq1 c) (by rw [pay9_up]; exact hi_block m c (rgt c) (rgt_ne c))) $$ Hf; iintro Hf
  iapply (step_arrive m K c 2 0 3 (by decide) (Above.zero 3) rfl (credit_dst 2)) $$ [Hp2 HO]
  · unfold pending; icases Hp2 with ⟨H1, H2⟩
    isplitr; · iexact HR
    isplitr; · iexact HL
    isplitl [H1]; · iexact H1
    isplitl [HO] <;> iassumption
  iintro ⟨HO, Hz2, Hb2⟩
  iapply (step_load_h1 c dM fullShare (arrived m 2 c)) $$ Hb2; iintro Hb2
  iapply (step_load_w c fullShare (wAt m c)) $$ Hw; iintro Hw
  rw [wp_ret]; imodintro; iapply Hk
  isplitl [HO]; · iexact HO
  isplitl [Hf]; · iapply (filled_mono m c _ _ (rows_succ 4 c _ (fun _ h => h))); iexact Hf
  isplitl [Hz4]; · iexact Hz4
  isplitl [Hz2]; · iexact Hz2
  isplitl [Hb4]; · iexact Hb4
  isplitl [Hb2]; · iexact Hb2
  iexact Hw

/-- The rows from across that came by the left are multiplied, then those that come by the right. -/
theorem part8_runs (c : Dev nD) (v24 v35 : BitVec 32) {Q : PUnit → sProp 𝕄} :
    iprop(records m K
        ∗ levAts L lv
        ∗ owed c (0)
        ∗ filled m c (rows 5 c)
        ∗ pending 5 c
        ∗ leaving 0 c
        ∗ (((c : Thread nD τ).loc cc0_stg1_0) ↦{fullShare} wAt m c))
      ⊢ iprop((iprop(owed c (0)
        ∗ filled m c (rows 7 c)
        ∗ atPos ER (recvCell 5 c) 1 ∅ 0
        ∗ atPos ER (sendCell 0 c) 1 ∅ 0
        ∗ owns (c : Thread nD τ) (h0 dM) fullShare (arrived m 5 c)
        ∗ source m 0 c
        ∗ (((c : Thread nD τ).loc cc0_stg1_0) ↦{fullShare} wAt m c)) -∗ Q ⟨⟩)
          -∗ run c (k0_part8 xM (Memref.isWhole_whole _) wM (Memref.isWhole_whole _) oM (Memref.isWhole_whole _) ownM (Memref.isWhole_whole _) lM (Memref.isWhole_whole _) rM (Memref.isWhole_whole _) dM (Memref.isWhole_whole _) cc0_scratch4 cc0_scratch5 c v24 v35 (k0_pay10 (up (arrived m 2 c)) (wAt m c))) Q) := by
  rw [k0_part8_eq_skeleton]
  unfold k0_part8_skel run
  simp only [semSignalWord, semWaitWord, Prog.lift, Prog.bind_op, Prog.bind_ret, Prog.pure_eq_ret]
  iintro ⟨#HR, #HL, HO, Hf, Hp5, Hp0, Hw⟩ Hk
  iapply (step_load_out m c _ (fun _ => rfl)) $$ Hf; iintro Hf
  iapply (step_store_rows m c _ 256 (512 * (acr c).val + 256) (off5_eq2 c) (by rw [pay10_up, arrived_two]; exact hi_block m c (acr c) (acr_ne c))) $$ Hf; iintro Hf
  iapply (step_arrive m K c 5 0 3 (by decide) (Above.zero 3) rfl (credit_dst 5)) $$ [Hp5 HO]
  · unfold pending; icases Hp5 with ⟨H1, H2⟩
    isplitr; · iexact HR
    isplitr; · iexact HL
    isplitl [H1]; · iexact H1
    isplitl [HO] <;> iassumption
  iintro ⟨HO, Hz5, Hb5⟩
  iapply (step_load_h0 c dM fullShare (arrived m 5 c)) $$ Hb5; iintro Hb5
  iapply (step_load_w c fullShare (wAt m c)) $$ Hw; iintro Hw
  iapply (step_load_out m c _ (fun _ => rfl)) $$ Hf; iintro Hf
  iapply (step_store_rows m c _ 256 (512 * (acr c).val) (off3_eq2 c) (by rw [pay11_up, arrived_five]; exact lo_block m c (acr c) (acr_ne c))) $$ Hf; iintro Hf
  iapply (step_depart m K c 0 rfl (credit_src 0)) $$ [Hp0 HO]
  · unfold leaving; icases Hp0 with ⟨H1, H2⟩
    isplitr; · iexact HR
    isplitl [H1]; · iexact H1
    isplitl [HO] <;> iassumption
  iintro ⟨HO, Hz0, Hs0⟩
  rw [wp_ret]; imodintro; iapply Hk
  isplitl [HO]; · iexact HO
  isplitl [Hf]; · iapply (filled_mono m c _ _ (rows_succ 6 c _ (rows_succ 5 c _ (fun _ h => h)))); iexact Hf
  isplitl [Hz5]; · iexact Hz5
  isplitl [Hz0]; · iexact Hz0
  isplitl [Hb5]; · iexact Hb5
  isplitl [Hs0]; · unfold source; iexact Hs0
  iexact Hw

/-- The departures of the next four transfers are awaited. -/
theorem part9_runs (c : Dev nD) {Q : PUnit → sProp 𝕄} :
    iprop(records m K
        ∗ owed c (0)
        ∗ leaving 1 c
        ∗ leaving 2 c
        ∗ leaving 3 c
        ∗ leaving 4 c)
      ⊢ iprop((iprop(owed c (0)
        ∗ atPos ER (sendCell 1 c) 1 ∅ 0
        ∗ atPos ER (sendCell 2 c) 1 ∅ 0
        ∗ atPos ER (sendCell 3 c) 1 ∅ 0
        ∗ atPos ER (sendCell 4 c) 1 ∅ 0
        ∗ source m 1 c
        ∗ source m 2 c
        ∗ source m 3 c
        ∗ source m 4 c) -∗ Q ⟨⟩)
          -∗ run c (k0_part9 xM (Memref.isWhole_whole _) wM (Memref.isWhole_whole _) oM (Memref.isWhole_whole _) ownM (Memref.isWhole_whole _) lM (Memref.isWhole_whole _) rM (Memref.isWhole_whole _) dM (Memref.isWhole_whole _) cc0_scratch4 cc0_scratch5) Q) := by
  rw [k0_part9_eq_skeleton]
  unfold k0_part9_skel run
  simp only [semSignalWord, semWaitWord, Prog.lift, Prog.bind_op, Prog.bind_ret, Prog.pure_eq_ret]
  iintro ⟨#HR, HO, Hp1, Hp2, Hp3, Hp4⟩ Hk
  iapply (step_depart m K c 1 rfl (credit_src 1)) $$ [Hp1 HO]
  · unfold leaving; icases Hp1 with ⟨H1, H2⟩
    isplitr; · iexact HR
    isplitl [H1]; · iexact H1
    isplitl [HO] <;> iassumption
  iintro ⟨HO, Hz1, Hs1⟩
  iapply (step_depart m K c 2 rfl (credit_src 2)) $$ [Hp2 HO]
  · unfold leaving; icases Hp2 with ⟨H1, H2⟩
    isplitr; · iexact HR
    isplitl [H1]; · iexact H1
    isplitl [HO] <;> iassumption
  iintro ⟨HO, Hz2, Hs2⟩
  iapply (step_depart m K c 3 rfl (credit_src 3)) $$ [Hp3 HO]
  · unfold leaving; icases Hp3 with ⟨H1, H2⟩
    isplitr; · iexact HR
    isplitl [H1]; · iexact H1
    isplitl [HO] <;> iassumption
  iintro ⟨HO, Hz3, Hs3⟩
  iapply (step_depart m K c 4 rfl (credit_src 4)) $$ [Hp4 HO]
  · unfold leaving; icases Hp4 with ⟨H1, H2⟩
    isplitr; · iexact HR
    isplitl [H1]; · iexact H1
    isplitl [HO] <;> iassumption
  iintro ⟨HO, Hz4, Hs4⟩
  rw [wp_ret]; imodintro; iapply Hk
  unfold source
  isplitl [HO]; · iexact HO
  isplitl [Hz1]; · iexact Hz1
  isplitl [Hz2]; · iexact Hz2
  isplitl [Hz3]; · iexact Hz3
  isplitl [Hz4]; · iexact Hz4
  isplitl [Hs1]; · iexact Hs1
  isplitl [Hs2]; · iexact Hs2
  isplitl [Hs3]; · iexact Hs3
  iexact Hs4

end Parts

end Cert.Gather
-- ==== Proof.Body.lean ====
/-
  The kernel's body on one device, from its share of the launch to everything handed back.
-/
module

public import proofs.«01_k».proof.Proof.Parts

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Splitting and joining -/

theorem six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- A device's thirteen cells by name. -/
theorem thirteen (c : Dev nD) (Φ : GSem nD τ sig → sProp 𝕄) :
    (bigSep Finset.univ fun i : Fin 13 => Φ (kcell (c, i)))
      = iprop(Φ (barCell c) ∗ Φ (sendCell 0 c) ∗ Φ (sendCell 1 c) ∗ Φ (sendCell 2 c) ∗ Φ (sendCell 3 c) ∗ Φ (sendCell 4 c) ∗ Φ (sendCell 5 c) ∗ Φ (recvCell 0 c) ∗ Φ (recvCell 1 c) ∗ Φ (recvCell 2 c) ∗ Φ (recvCell 3 c) ∗ Φ (recvCell 4 c) ∗ Φ (recvCell 5 c)) :=
  bigSep_univ_eq_bigSepL [0, 1, 2, 3, 4, 5, 6, 7, 8, 9, 10, 11, 12] (by decide) (by decide) fun i : Fin 13 => Φ (kcell (c, i))

theorem pending_intro (t : Fin 6) (c : Dev nD) : iprop(cred (tallyAt (recvCell t c) () N) ∗ atPos ER (recvCell t c) 0 ∅ 0) ⊢ (pending t c : sProp 𝕄) := by
  unfold pending; iintro H; iexact H
theorem leaving_intro (t : Fin 6) (c : Dev nD) : iprop(cred (tallyAt (sendCell t c) () N) ∗ atPos ER (sendCell t c) 0 ∅ 0) ⊢ (leaving t c : sProp 𝕄) := by
  unfold leaving; iintro H; iexact H

theorem view_set_whole (b : Ref sig .tc) : (Memref.whole b).view.set = Finset.univ := View.set_whole b

/-- Two shares of the same rows are one. -/
theorem owns_unshare (c : Dev nD) (M : Memref sig .tc .vmem S256x2048 .bf16) (q : PosShare TreeShare) (X : S256x2048.Idx → Elt F .bf16) :
    iprop(owns (c : Thread nD τ) M q.left X ∗ owns (c : Thread nD τ) M q.right X) ⊢ (owns (c : Thread nD τ) M q X : sProp 𝕄) := by
  unfold owns
  iintro ⟨⟨%f, %hf, Hl⟩, ⟨%g, %hg, Hr⟩⟩
  have e : ∀ i ∈ M.view.set, g i = f i := by
    intro i hi
    obtain ⟨x, -, rfl⟩ := Finset.mem_map.1 hi
    have := (congrFun hg x).trans (congrFun hf x).symm
    rw [View.read_apply, View.read_apply] at this
    exact (cast_inj _).1 this
  have hc : (M.view.loc (c : Thread nD τ) ↦[M.view.set]{q.right} g : sProp 𝕄) = M.view.loc (c : Thread nD τ) ↦[M.view.set]{q.right} f := pointsTo_congr e
  ihave Hr' := (Entails.of_eq hc) $$ Hr
  iexists f; isplitr
  · ipureintro; exact hf
  iapply (pointsTo_share (PosShare.mem_left_op_right q)).2
  isplitl [Hl]; · iexact Hl
  iexact Hr'

/-- The halves of a landing buffer, as places. -/
theorem places_of (c : Dev nD) (b : Ref sig .tc) (M : Memref sig .tc .vmem S2x256x2048 .bf16) (f : Buf (Elt F) (M.view.loc (c : Thread nD τ)))
    (h : M.view.set = Finset.univ) :
    (M.view.loc (c : Thread nD τ) ↦{fullShare} f : sProp 𝕄) ⊢ iprop(slot (h0 M) c ∗ slot (h1 M) c) := by
  have hh := whole_halves c M fullShare f
  rw [h] at hh
  refine hh.trans ?_
  unfold slot
  iintro ⟨H0, H1⟩
  isplitl [H0]
  · iexists _; iexact H0
  · iexists _; iexact H1

/-- The three landing buffers are the places the device hands to its neighbours. -/
theorem landing_places (c : Dev nD) :
    iprop((∃ f : Buf (Elt F) ((c : Thread nD τ).loc cc0_scratch1), ((c : Thread nD τ).loc cc0_scratch1) ↦{fullShare} f)
        ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f))
      ⊢ (iprop(barPay true (lft c) ∗ barPay false (rgt c)) : sProp 𝕄) := by
  rw [show barPay (F := F) true (lft c) = places true c by show places true (rgt (lft c)) = _; rw [rgt_lft],
    show barPay (F := F) false (rgt c) = places false c by show places false (lft (rgt c)) = _; rw [lft_rgt]]
  rw [show (places true c : sProp 𝕄) = iprop(slot (h1 lM) c ∗ slot (h0 lM) c ∗ slot (h1 dM) c) from rfl,
    show (places false c : sProp 𝕄) = iprop(slot (h0 rM) c ∗ slot (h1 rM) c ∗ slot (h0 dM) c) from rfl]
  iintro ⟨⟨%f, Hl⟩, ⟨%g, Hr⟩, ⟨%h, Hd⟩⟩
  ihave Hl' := (places_of c cc0_scratch1 lM f (view_set_whole _)) $$ Hl
  ihave Hr' := (places_of c cc0_scratch2 rM g (view_set_whole _)) $$ Hr
  ihave Hd' := (places_of c cc0_scratch3 dM h (view_set_whole _)) $$ Hd
  icases Hl' with ⟨L0, L1⟩
  icases Hr' with ⟨R0, R1⟩
  icases Hd' with ⟨D0, D1⟩
  isplitl [L0 L1 D1]
  · isplitl [L1]; · iexact L1
    isplitl [L0] <;> iassumption
  · isplitl [R0]; · iexact R0
    isplitl [R1] <;> iassumption

theorem whole_of (c : Dev nD) (M : Memref sig .tc .vmem S2x256x2048 .bf16) (h : M.view.set = Finset.univ) (X Y : S256x2048.Idx → Elt F .bf16) :
    iprop(owns (c : Thread nD τ) (h0 M) fullShare X ∗ owns (c : Thread nD τ) (h1 M) fullShare Y)
      ⊢ (iprop(∃ f, M.view.loc (c : Thread nD τ) ↦{fullShare} f) : sProp 𝕄) := by
  have hh := halves_whole (F := F) c M fullShare X Y
  rwa [h] at hh

/-- Everything lent and received is the four buffers again. -/
theorem scratch_back (c : Dev nD) :
    iprop((((c : Thread nD τ).loc cc0_scratch0) ↦{fullShare.left} ownAt m c) ∗ source m 0 c ∗ source m 1 c ∗ source m 3 c ∗ source m 4 c
        ∗ owns (c : Thread nD τ) (h0 lM) fullShare (arrived m 1 c) ∗ owns (c : Thread nD τ) (h1 lM) fullShare.right (arrived m 0 c) ∗ source m 2 c
        ∗ owns (c : Thread nD τ) (h0 rM) fullShare.right (arrived m 3 c) ∗ source m 5 c ∗ owns (c : Thread nD τ) (h1 rM) fullShare (arrived m 4 c)
        ∗ owns (c : Thread nD τ) (h0 dM) fullShare (arrived m 5 c) ∗ owns (c : Thread nD τ) (h1 dM) fullShare (arrived m 2 c))
      ⊢ (scratch c : sProp 𝕄) := by
  iintro ⟨Hown, H0, H1, H3, H4, L0, L1, L1', R0, R0', R1, D0, D1⟩
  unfold source
  ihave Hown' := (show (((c : Thread nD τ).loc cc0_scratch0) ↦{fullShare.left} ownAt m c : sProp 𝕄)
      ⊢ iprop(owns (c : Thread nD τ) (h0 ownM) fullShare.left (lo m c) ∗ owns (c : Thread nD τ) (h1 ownM) fullShare.left (hi m c)) by
    have h := whole_halves c ownM fullShare.left (ownAt m c)
    rwa [view_set_whole] at h) $$ Hown
  icases Hown' with ⟨Ha, Hb⟩
  ihave Ha' := (owns_unshare c (h0 ownM) fullShare.right (lo m c)) $$ [H1 H3]
  · isplitl [H1]; · iexact H1
    iexact H3
  ihave Ha'' := (owns_unshare c (h0 ownM) fullShare (lo m c)) $$ [Ha Ha']
  · isplitl [Ha] <;> iassumption
  ihave Hb' := (owns_unshare c (h1 ownM) fullShare.right (hi m c)) $$ [H0 H4]
  · isplitl [H0]; · iexact H0
    iexact H4
  ihave Hb'' := (owns_unshare c (h1 ownM) fullShare (hi m c)) $$ [Hb Hb']
  · isplitl [Hb] <;> iassumption
  ihave L1'' := (owns_unshare c (h1 lM) fullShare (arrived m 0 c)) $$ [L1 L1']
  · isplitl [L1']; · iexact L1'
    iexact L1
  ihave R0'' := (owns_unshare c (h0 rM) fullShare (arrived m 3 c)) $$ [R0 R0']
  · isplitl [R0']; · iexact R0'
    iexact R0
  unfold scratch
  isplitl [Ha'' Hb'']
  · iapply (whole_of c ownM (view_set_whole _) (lo m c) (hi m c)); isplitl [Ha''] <;> iassumption
  isplitl [L0 L1'']
  · iapply (whole_of c lM (view_set_whole _) (arrived m 1 c) (arrived m 0 c)); isplitl [L0] <;> iassumption
  isplitl [R0'' R1]
  · iapply (whole_of c rM (view_set_whole _) (arrived m 3 c) (arrived m 4 c)); isplitl [R0''] <;> iassumption
  iapply (whole_of c dM (view_set_whole _) (arrived m 5 c) (arrived m 2 c)); isplitl [D0] <;> iassumption

section Body
variable (K : Dev nD × Fin 13 → ℕ)

/-- Every cell closes once its round has been consumed: its counter is the device's again, at zero. -/
theorem close_cells (c : Dev nD) :
    iprop(records m K ∗ atPos ER (barCell c) 1 ∅ 0 ∗ atPos ER (sendCell 0 c) 1 ∅ 0 ∗ atPos ER (sendCell 1 c) 1 ∅ 0 ∗ atPos ER (sendCell 2 c) 1 ∅ 0 ∗ atPos ER (sendCell 3 c) 1 ∅ 0 ∗ atPos ER (sendCell 4 c) 1 ∅ 0 ∗ atPos ER (sendCell 5 c) 1 ∅ 0 ∗ atPos ER (recvCell 0 c) 1 ∅ 0 ∗ atPos ER (recvCell 1 c) 1 ∅ 0 ∗ atPos ER (recvCell 2 c) 1 ∅ 0 ∗ atPos ER (recvCell 3 c) 1 ∅ 0 ∗ atPos ER (recvCell 4 c) 1 ∅ 0 ∗ atPos ER (recvCell 5 c) 1 ∅ 0)
      ⊢ iprop(|={Set.univ}=> bigSep Finset.univ fun i : Fin 13 => semVal (kcell (c, i)) 0) := by
  iintro ⟨#HR, HaB, H1, H2, H3, H4, H5, H6, H7, H8, H9, H10, H11, H12⟩
  imod (Rounds.cell_close ER (rd m) (Set.mem_univ (K (c, 0))) (fun h => h) (R := 1) (duties_later m (barCell c))) $$ [HaB] with Z0
  · isplitr; · iapply (inv_bar m K c); iexact HR
    iexact HaB
  imod (Rounds.cell_close ER (rd m) (Set.mem_univ (K (c, iS 0))) (fun h => h) (R := 1) (duties_later m (sendCell 0 c))) $$ [H1] with Z1
  · isplitr; · iapply (inv_send m K 0 c); iexact HR
    iexact H1
  imod (Rounds.cell_close ER (rd m) (Set.mem_univ (K (c, iS 1))) (fun h => h) (R := 1) (duties_later m (sendCell 1 c))) $$ [H2] with Z2
  · isplitr; · iapply (inv_send m K 1 c); iexact HR
    iexact H2
  imod (Rounds.cell_close ER (rd m) (Set.mem_univ (K (c, iS 2))) (fun h => h) (R := 1) (duties_later m (sendCell 2 c))) $$ [H3] with Z3
  · isplitr; · iapply (inv_send m K 2 c); iexact HR
    iexact H3
  imod (Rounds.cell_close ER (rd m) (Set.mem_univ (K (c, iS 3))) (fun h => h) (R := 1) (duties_later m (sendCell 3 c))) $$ [H4] with Z4
  · isplitr; · iapply (inv_send m K 3 c); iexact HR
    iexact H4
  imod (Rounds.cell_close ER (rd m) (Set.mem_univ (K (c, iS 4))) (fun h => h) (R := 1) (duties_later m (sendCell 4 c))) $$ [H5] with Z5
  · isplitr; · iapply (inv_send m K 4 c); iexact HR
    iexact H5
  imod (Rounds.cell_close ER (rd m) (Set.mem_univ (K (c, iS 5))) (fun h => h) (R := 1) (duties_later m (sendCell 5 c))) $$ [H6] with Z6
  · isplitr; · iapply (inv_send m K 5 c); iexact HR
    iexact H6
  imod (Rounds.cell_close ER (rd m) (Set.mem_univ (K (c, iR 0))) (fun h => h) (R := 1) (duties_later m (recvCell 0 c))) $$ [H7] with Z7
  · isplitr; · iapply (inv_recv m K 0 c); iexact HR
    iexact H7
  imod (Rounds.cell_close ER (rd m) (Set.mem_univ (K (c, iR 1))) (fun h => h) (R := 1) (duties_later m (recvCell 1 c))) $$ [H8] with Z8
  · isplitr; · iapply (inv_recv m K 1 c); iexact HR
    iexact H8
  imod (Rounds.cell_close ER (rd m) (Set.mem_univ (K (c, iR 2))) (fun h => h) (R := 1) (duties_later m (recvCell 2 c))) $$ [H9] with Z9
  · isplitr; · iapply (inv_recv m K 2 c); iexact HR
    iexact H9
  imod (Rounds.cell_close ER (rd m) (Set.mem_univ (K (c, iR 3))) (fun h => h) (R := 1) (duties_later m (recvCell 3 c))) $$ [H10] with Z10
  · isplitr; · iapply (inv_recv m K 3 c); iexact HR
    iexact H10
  imod (Rounds.cell_close ER (rd m) (Set.mem_univ (K (c, iR 4))) (fun h => h) (R := 1) (duties_later m (recvCell 4 c))) $$ [H11] with Z11
  · isplitr; · iapply (inv_recv m K 4 c); iexact HR
    iexact H11
  imod (Rounds.cell_close ER (rd m) (Set.mem_univ (K (c, iR 5))) (fun h => h) (R := 1) (duties_later m (recvCell 5 c))) $$ [H12] with Z12
  · isplitr; · iapply (inv_recv m K 5 c); iexact HR
    iexact H12
  imodintro
  rw [thirteen c fun g => (semVal g 0 : sProp 𝕄)]
  isplitl [Z0]; · iexact Z0
  isplitl [Z1]; · iexact Z1
  isplitl [Z2]; · iexact Z2
  isplitl [Z3]; · iexact Z3
  isplitl [Z4]; · iexact Z4
  isplitl [Z5]; · iexact Z5
  isplitl [Z6]; · iexact Z6
  isplitl [Z7]; · iexact Z7
  isplitl [Z8]; · iexact Z8
  isplitl [Z9]; · iexact Z9
  isplitl [Z10]; · iexact Z10
  isplitl [Z11]; · iexact Z11
  iexact Z12

set_option maxHeartbeats 1600000 in
/-- The body. -/
theorem body_runs (c : Dev nD) {Q : PUnit → sProp 𝕄} :
    iprop((ghost m K c ∗ credits c ∗ levAts L lv ∗ scratch c) ∗ owed c (O₀ c)
        ∗ (((c : Thread nD τ).loc cc0_stg0_0) ↦{fullShare} xAt m c) ∗ (((c : Thread nD τ).loc cc0_stg1_0) ↦{fullShare} wAt m c)
        ∗ (∃ f : S2048x512.Idx → Elt F .bf16, ((c : Thread nD τ).loc cc0_stg2_0) ↦{fullShare} f))
      ⊢ iprop((iprop(Φ₁ c ∗ owed c 0 ∗ (((c : Thread nD τ).loc cc0_stg0_0) ↦{fullShare} xAt m c) ∗ (((c : Thread nD τ).loc cc0_stg1_0) ↦{fullShare} wAt m c)
            ∗ (((c : Thread nD τ).loc cc0_stg2_0) ↦{fullShare} outAt m c)) -∗ Q ⟨⟩)
          -∗ run c (cc0_body xM (Memref.isWhole_whole _) wM (Memref.isWhole_whole _) oM (Memref.isWhole_whole _) ownM (Memref.isWhole_whole _) lM (Memref.isWhole_whole _) rM (Memref.isWhole_whole _) dM (Memref.isWhole_whole _) cc0_scratch4 cc0_scratch5) Q) := by
  unfold ghost linear payToks credits scratch run
  rw [thirteen c fun g => (atPos ER g 0 ∅ 0 : sProp 𝕄), six, six, six]
  iintro ⟨⟨⟨#HR, ⟨HaB, Has0, Has1, Has2, Has3, Has4, Has5, Har0, Har1, Har2, Har3, Har4, Har5⟩, ⟨Ht1, Ht2, ⟨Hts0, Hts1, Hts2, Hts3, Hts4, Hts5⟩, ⟨Htr0, Htr1, Htr2, Htr3, Htr4, Htr5⟩⟩⟩, ⟨Hcb, ⟨Hcr0, Hcr1, Hcr2, Hcr3, Hcr4, Hcr5⟩⟩, #HL, ⟨Hown, Hland⟩⟩, HO, Hx, Hw, ⟨%f, Hout⟩⟩ Hk
  ihave Hpl' := (landing_places c) $$ Hland
  icases Hpl' with ⟨Hpl, Hpr⟩
  simp only [cc0_body_eq_skeleton]
  unfold cc0_body_skel
  simp only [Prog.lift, Prog.bind_op, Prog.bind_ret, Prog.pure_eq_ret]
  rw [wp_bind, k0_part1_eq_skeleton]
  unfold k0_part1_skel
  simp only [Prog.lift, Prog.bind_op, Prog.bind_ret, Prog.pure_eq_ret, wp_deviceId]
  rw [wp_ret]; imodintro
  rw [wp_bind]
  iapply (part2_runs m K c _ _) $$ [Hcb HO HaB Ht1 Ht2 Hts0 Htr0 Hx Hown Hpl Hpr]
  · isplitr; · iexact HR
    isplitr; · iexact HL
    isplitl [Hcb]; · iexact Hcb
    isplitl [HO]; · iexact HO
    isplitl [HaB]; · iexact HaB
    isplitl [Ht1]; · iexact Ht1
    isplitl [Ht2]; · iexact Ht2
    isplitl [Hts0]; · iexact Hts0
    isplitl [Htr0]; · iexact Htr0
    isplitl [Hx]; · iexact Hx
    isplitl [Hown]; · iexact Hown
    isplitl [Hpl]; · iexact Hpl
    iexact Hpr
  iintro ⟨HO, HaB, Hx, Hown, Hs1, Hs3, Hs4, Hc0, Hd1, Hd2, Hd3, Hd4, Hd5⟩
  ihave Ha1 := (lane_intro (F := F) 1 c) $$ [Hd1 Hts1 Htr1]
  · isplitl [Hd1]; · iexact Hd1
    isplitl [Hts1] <;> iassumption
  ihave Ha2 := (lane_intro (F := F) 2 c) $$ [Hd2 Hts2 Htr2]
  · isplitl [Hd2]; · iexact Hd2
    isplitl [Hts2] <;> iassumption
  ihave Ha3 := (lane_intro (F := F) 3 c) $$ [Hd3 Hts3 Htr3]
  · isplitl [Hd3]; · iexact Hd3
    isplitl [Hts3] <;> iassumption
  ihave Ha4 := (lane_intro (F := F) 4 c) $$ [Hd4 Hts4 Htr4]
  · isplitl [Hd4]; · iexact Hd4
    isplitl [Hts4] <;> iassumption
  ihave Ha5 := (lane_intro (F := F) 5 c) $$ [Hd5 Hts5 Htr5]
  · isplitl [Hd5]; · iexact Hd5
    isplitl [Hts5] <;> iassumption
  ihave Hp0 := (pending_intro (F := F) 0 c) $$ [Hcr0 Har0]
  · isplitl [Hcr0] <;> iassumption
  ihave Hp1 := (pending_intro (F := F) 1 c) $$ [Hcr1 Har1]
  · isplitl [Hcr1] <;> iassumption
  ihave Hp2 := (pending_intro (F := F) 2 c) $$ [Hcr2 Har2]
  · isplitl [Hcr2] <;> iassumption
  ihave Hp3 := (pending_intro (F := F) 3 c) $$ [Hcr3 Har3]
  · isplitl [Hcr3] <;> iassumption
  ihave Hp4 := (pending_intro (F := F) 4 c) $$ [Hcr4 Har4]
  · isplitl [Hcr4] <;> iassumption
  ihave Hp5 := (pending_intro (F := F) 5 c) $$ [Hcr5 Har5]
  · isplitl [Hcr5] <;> iassumption
  rw [wp_bind]
  iapply (part3_runs m K c _ _) $$ [HO Hs1 Hs3 Hs4 Ha1 Ha3 Ha4 Hown Hw]
  · isplitr; · iexact HR
    isplitl [HO]; · iexact HO
    isplitl [Hs1]; · iexact Hs1
    isplitl [Hs3]; · iexact Hs3
    isplitl [Hs4]; · iexact Hs4
    isplitl [Ha1]; · iexact Ha1
    isplitl [Ha3]; · iexact Ha3
    isplitl [Ha4]; · iexact Ha4
    isplitl [Hown]; · iexact Hown
    iexact Hw
  iintro ⟨HO, Hc1, Hc3, Hc4, Hown, Hw⟩
  ihave Hf := (filled_none m c _) $$ Hout
  rw [wp_bind]
  iapply (part4_runs m K c _ _ _) $$ [HO Hf Hp0 Ha2]
  · isplitr; · iexact HR
    isplitr; · iexact HL
    isplitl [HO]; · iexact HO
    isplitl [Hf]; · iexact Hf
    isplitl [Hp0]; · iexact Hp0
    iexact Ha2
  iintro ⟨HO, Hf, Har0, Hc2, Hb0⟩
  rw [wp_bind]
  iapply (part5_runs m K c _) $$ [HO Hf Hp3 Ha5 Hb0 Hw]
  · isplitr; · iexact HR
    isplitr; · iexact HL
    isplitl [HO]; · iexact HO
    isplitl [Hf]; · iexact Hf
    isplitl [Hp3]; · iexact Hp3
    isplitl [Ha5]; · iexact Ha5
    isplitl [Hb0]; · iexact Hb0
    iexact Hw
  iintro ⟨HO, Hf, Har3, Hc5, Hb0, Hb3, Hw⟩
  rw [wp_bind]
  iapply (part6_runs m K c _ _) $$ [HO Hf Hp1 Hw]
  · isplitr; · iexact HR
    isplitr; · iexact HL
    isplitl [HO]; · iexact HO
    isplitl [Hf]; · iexact Hf
    isplitl [Hp1]; · iexact Hp1
    iexact Hw
  iintro ⟨HO, Hf, Har1, Hb1, Hw⟩
  rw [wp_bind]
  iapply (part7_runs m K c _ _ _) $$ [HO Hf Hp4 Hp2 Hw]
  · isplitr; · iexact HR
    isplitr; · iexact HL
    isplitl [HO]; · iexact HO
    isplitl [Hf]; · iexact Hf
    isplitl [Hp4]; · iexact Hp4
    isplitl [Hp2]; · iexact Hp2
    iexact Hw
  iintro ⟨HO, Hf, Har4, Har2, Hb4, Hb2, Hw⟩
  ihave Hq0 := (leaving_intro (F := F) 0 c) $$ [Hc0 Has0]
  · isplitl [Hc0] <;> iassumption
  ihave Hq1 := (leaving_intro (F := F) 1 c) $$ [Hc1 Has1]
  · isplitl [Hc1] <;> iassumption
  ihave Hq2 := (leaving_intro (F := F) 2 c) $$ [Hc2 Has2]
  · isplitl [Hc2] <;> iassumption
  ihave Hq3 := (leaving_intro (F := F) 3 c) $$ [Hc3 Has3]
  · isplitl [Hc3] <;> iassumption
  ihave Hq4 := (leaving_intro (F := F) 4 c) $$ [Hc4 Has4]
  · isplitl [Hc4] <;> iassumption
  ihave Hq5 := (leaving_intro (F := F) 5 c) $$ [Hc5 Has5]
  · isplitl [Hc5] <;> iassumption
  rw [wp_bind]
  iapply (part8_runs m K c _ _) $$ [HO Hf Hp5 Hq0 Hw]
  · isplitr; · iexact HR
    isplitr; · iexact HL
    isplitl [HO]; · iexact HO
    isplitl [Hf]; · iexact Hf
    isplitl [Hp5]; · iexact Hp5
    isplitl [Hq0]; · iexact Hq0
    iexact Hw
  iintro ⟨HO, Hf, Har5, Has0, Hb5, Hs0, Hw⟩
  rw [wp_bind]
  iapply (part9_runs m K c) $$ [HO Hq1 Hq2 Hq3 Hq4]
  · isplitr; · iexact HR
    isplitl [HO]; · iexact HO
    isplitl [Hq1]; · iexact Hq1
    isplitl [Hq2]; · iexact Hq2
    isplitl [Hq3]; · iexact Hq3
    iexact Hq4
  iintro ⟨HO, Has1, Has2, Has3, Has4, Hs1, Hs2, Hs3, Hs4⟩
  iapply (step_depart m K c 5 rfl (credit_src 5)) $$ [Hq5 HO]
  · unfold leaving; icases Hq5 with ⟨H1, H2⟩
    isplitr; · iexact HR
    isplitl [H1]; · iexact H1
    isplitl [HO] <;> iassumption
  iintro ⟨HO, Has5, Hs5⟩
  rw [wp_ret]
  imod (close_cells m K c) $$ [HaB Has0 Has1 Has2 Has3 Has4 Has5 Har0 Har1 Har2 Har3 Har4 Har5] with Hz
  · isplitr; · iexact HR
    isplitl [HaB]; · iexact HaB
    isplitl [Has0]; · iexact Has0
    isplitl [Has1]; · iexact Has1
    isplitl [Has2]; · iexact Has2
    isplitl [Has3]; · iexact Has3
    isplitl [Has4]; · iexact Has4
    isplitl [Has5]; · iexact Has5
    isplitl [Har0]; · iexact Har0
    isplitl [Har1]; · iexact Har1
    isplitl [Har2]; · iexact Har2
    isplitl [Har3]; · iexact Har3
    isplitl [Har4]; · iexact Har4
    iexact Har5
  ihave Hscr := (scratch_back m c) $$ [Hown Hs0 Hs1 Hs3 Hs4 Hb1 Hb0 Hs2 Hb3 Hs5 Hb4 Hb5 Hb2]
  · isplitl [Hown]; · iexact Hown
    isplitl [Hs0]; · iexact Hs0
    isplitl [Hs1]; · iexact Hs1
    isplitl [Hs3]; · iexact Hs3
    isplitl [Hs4]; · iexact Hs4
    isplitl [Hb1]; · iexact Hb1
    isplitl [Hb0]; · iexact Hb0
    isplitl [Hs2]; · iexact Hs2
    isplitl [Hb3]; · iexact Hb3
    isplitl [Hs5]; · unfold source; iexact Hs5
    isplitl [Hb4]; · iexact Hb4
    isplitl [Hb5]; · iexact Hb5
    iexact Hb2
  imodintro
  iapply Hk
  isplitl [Hscr Hz]
  · unfold Φ₁; isplitl [Hscr] <;> iassumption
  isplitl [HO]; · iexact HO
  isplitl [Hx]; · iexact Hx
  isplitl [Hw]; · iexact Hw
  iapply (filled_all m c _ (rows_all c)); iexact Hf

end Body

end Cert.Gather
-- ==== Proof.Launch.lean ====
/-
  The launch of the four kernels: the ghost state dealt out to them, the credit each is owed, and the run of `main`
  from any memory whose counters are zero.
-/
module

public import proofs.«01_k».proof.Proof.Body
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline calls it -/

/-- A staging buffer that holds `X`. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem holds_intro (c : Dev nD) (b : Ref sig .tc) (X : Buf (Elt F) ((c : Thread nD τ).loc b)) :
    (((c : Thread nD τ).loc b) ↦{fullShare} X) ⊢ holds c b X := by
  iintro H; iexists X
  isplitr; · ipureintro; rfl
  iexact H

/-- What the pipeline gives the body, and what it takes back. -/
def entry (c : Dev nD) : sProp 𝕄 :=
  iprop(Φ₀ m c ∗ (dats m 0 c).owesAt () t0_0.castSucc
    ∗ (∃ d, holds c cc0_stg0_0 ((dats m 0 c).before (0 : Fin 3) t0_0 d))
    ∗ (∃ d, holds c cc0_stg1_0 ((dats m 0 c).before (1 : Fin 3) t0_0 d))
    ∗ (∃ d, holds c cc0_stg2_0 ((dats m 0 c).before (2 : Fin 3) t0_0 d)))
def departure (c : Dev nD) : sProp 𝕄 :=
  iprop(Φ₁ c ∗ (dats m 0 c).owesAt () t0_0.succ
    ∗ holds c cc0_stg0_0 (xAt m c) ∗ holds c cc0_stg1_0 (wAt m c) ∗ holds c cc0_stg2_0 (outAt m c))

theorem before_x (c : Dev nD) (d : S512x2048.Idx → Elt F .bf16) : (dats m 0 c).before (0 : Fin 3) t0_0 d = xAt m c := by
  unfold Dat.before; rw [if_pos (fetch0_0 t0_0)]; rfl
theorem before_w (c : Dev nD) (d : S2048x512.Idx → Elt F .bf16) : (dats m 0 c).before (1 : Fin 3) t0_0 d = wAt m c := by
  unfold Dat.before; rw [if_pos (fetch0_1 t0_0)]; rfl

theorem owed_open (c : Dev nD) : (dats m 0 c).owesAt () t0_0.castSucc ⊢ (owed c (O₀ c) : sProp 𝕄) := by
  unfold Dat.owesAt Pipeline.owesWithin owed
  iintro ⟨%W, -, H⟩
  iexists W; iexact H
theorem owed_close (c : Dev nD) : owed c 0 ⊢ (dats m 0 c).owesAt () t0_0.succ := by
  unfold Dat.owesAt Pipeline.owesWithin owed
  rw [show (dats m 0 c).owed t0_0.succ = 0 from rfl]
  iintro ⟨%W, H⟩
  iexists W
  isplitr; · ipureintro; exact fun _ _ => Or.inl trivial
  iexact H

theorem body_from_entry (c : Dev nD) :
    entry m c ⊢ run c (cc0_body xM (Memref.isWhole_whole _) wM (Memref.isWhole_whole _) oM (Memref.isWhole_whole _) ownM (Memref.isWhole_whole _)
        lM (Memref.isWhole_whole _) rM (Memref.isWhole_whole _) dM (Memref.isWhole_whole _) cc0_scratch4 cc0_scratch5) (fun _ => departure m c) := by
  unfold entry Φ₀ start
  iintro ⟨⟨⟨⟨%K, Hg⟩, Hc, #Hl⟩, Hs⟩, Ho, ⟨%d0, %f0, %e0, Hx⟩, ⟨%d1, %f1, %e1, Hw⟩, ⟨%d2, %f2, -, Hy⟩⟩
  rw [before_x] at e0
  rw [before_w] at e1
  subst e0 e1
  iapply (body_runs m K c (Q := fun _ => departure m c)) $$ [Hg Hc Hs Ho Hx Hw Hy]
  · isplitl [Hg Hc Hs]
    · isplitl [Hg]; · iexact Hg
      isplitl [Hc]; · iexact Hc
      isplitr; · iexact Hl
      iexact Hs
    isplitl [Ho]; · iapply (owed_open m c); iexact Ho
    isplitl [Hx]; · iexact Hx
    isplitl [Hw]; · iexact Hw
    iexists f2; iexact Hy
  · unfold departure
    iintro ⟨HΦ, Ho, Hx, Hw, Hy⟩
    isplitl [HΦ]; · iexact HΦ
    isplitl [Ho]; · iapply (owed_close m c); iexact Ho
    isplitl [Hx]; · iapply (holds_intro c cc0_stg0_0 (xAt m c)); iexact Hx
    isplitl [Hw]; · iapply (holds_intro c cc0_stg1_0 (wAt m c)); iexact Hw
    iapply (holds_intro c cc0_stg2_0 (outAt m c)); iexact Hy

theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_from_entry m c

/-! ## The ghost state dealt out -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 13 → GSem nD τ sig) := by
  rintro ⟨c, i⟩ ⟨c', i'⟩ h
  have hc : c = c' := congrArg (fun g : GSem nD τ sig => g.1.1) h
  have hi : i = i' := csem_injective (congrArg Prod.snd h)
  rw [hc, hi]
def allCells : Finset (GSem nD τ sig) := Finset.univ.map ⟨kcell, kcell_injective⟩

/-- Which cell a device's `j`-th token belongs to: its barrier has the first two, every other cell one. -/
def slotOf (j : Fin 14) : Fin 13 := ⟨j.val - 1, by have := j.isLt; omega⟩
def mint (cj : Dev nD × Fin 14) : GSem nD τ sig × ℕ × Bool := (kcell (cj.1, slotOf cj.2), 0, decide (cj.2 = 0))
theorem mint_injective : Function.Injective mint := by
  rintro ⟨c, j⟩ ⟨c', j'⟩ h
  have hk := kcell_injective (congrArg Prod.fst h)
  have hc : c = c' := congrArg Prod.fst hk
  have hj : slotOf j = slotOf j' := congrArg Prod.snd hk
  have hb : decide (j = 0) = decide (j' = 0) := congrArg (fun x : GSem nD τ sig × ℕ × Bool => x.2.2) h
  have : j = j' := by clear h hk; revert hj hb; revert j j'; decide
  rw [hc, this]
def allToks : Finset (GSem nD τ sig × ℕ × Bool) := Finset.univ.map ⟨mint, mint_injective⟩

def u₀ : UU :=
  (initOf (Pipeline.cells cfgs cellOf_inj) (Pipeline.launchToks cfgs cellOf_inj), initOf allCells allToks)

/-- The tokens of a device's own cells. -/
def ownToks (c : Dev nD) : sProp 𝕄 :=
  iprop(dutyTok ER (barCell c) 0 true ∗ dutyTok ER (barCell c) 0 false
    ∗ (bigSep Finset.univ fun k : Fin 6 => dutyTok ER (sendCell k c) 0 false)
    ∗ bigSep Finset.univ fun k : Fin 6 => dutyTok ER (recvCell k c) 0 false)

theorem ownToks_eq (c : Dev nD) :
    (bigSep Finset.univ fun j : Fin 14 => (dutyTok ER (mint (c, j)).1 (mint (c, j)).2.1 (mint (c, j)).2.2 : sProp 𝕄)) = ownToks c := by
  unfold ownToks
  rw [bigSep_univ_eq_bigSepL [0, 1, 2, 3, 4, 5, 6, 7, 8, 9, 10, 11, 12, 13] (by decide) (by decide), six, six]
  have assoc (A B C : sProp 𝕄) : iprop((A ∗ B) ∗ C) = iprop(A ∗ B ∗ C) := BI.sep_assoc.antisymm BI.sep_assoc'
  simp only [assoc]
  rfl

/-- What a device is dealt of its own cells. -/
def dealt (c : Dev nD) : sProp 𝕄 :=
  iprop((bigSep Finset.univ fun i : Fin 13 => roundState ER (rd m) (kcell (c, i)) 0)
    ∗ (bigSep Finset.univ fun i : Fin 13 => iprop(atPos ER (kcell (c, i)) 0 ∅ 0 ∗ reached ER (kcell (c, i)) 0)) ∗ ownToks c)
/-- What it holds once the invariants stand and the tokens have gone to those who pay. -/
def ready (c : Dev nD) : sProp 𝕄 := iprop(∃ K, ghost m K c)

theorem over_cells (Φ : GSem nD τ sig → sProp 𝕄) :
    bigSep allCells Φ = bigSep Finset.univ fun c : Dev nD => bigSep Finset.univ fun i : Fin 13 => Φ (kcell (c, i)) := by
  unfold allCells; rw [bigSep_map, bigSep_univ_prod]; rfl
theorem over_toks :
    bigSep allToks (fun x => (dutyTok ER x.1 x.2.1 x.2.2 : sProp 𝕄)) = bigSep Finset.univ fun c : Dev nD => ownToks c := by
  unfold allToks; rw [bigSep_map, bigSep_univ_prod]
  exact bigSep_congr fun c _ => ownToks_eq c

theorem deal : BI.own (ER (initOf allCells allToks)) ⊢ (|==> bigSep Finset.univ (dealt m) : sProp 𝕄) := by
  iintro H
  imod (Rounds.fund ER (rd m) allCells allToks) $$ H with ⟨Hst, Hr, Hat, Htok⟩
  imodintro
  ihave Hst := (Entails.of_eq (over_cells fun g => roundState ER (rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold dealt; simp only [bigSep_sep']
  isplitl [Hst]; · iexact Hst
  isplitl [Hat Hr]
  · isplitl [Hat] <;> iassumption
  iexact Htok

theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (sendCell 3 c) 0 ∗ semVal (sendCell 4 c) 0 ∗ semVal (sendCell 5 c) 0
        ∗ semVal (recvCell 0 c) 0 ∗ semVal (recvCell 1 c) 0 ∗ semVal (recvCell 2 c) 0 ∗ semVal (recvCell 3 c) 0 ∗ semVal (recvCell 4 c) 0 ∗ semVal (recvCell 5 c) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's thirteen counters are the barrier's and the kernel's own twelve. -/
theorem counters_eq (c : Dev nD) :
    (bigSep Finset.univ fun i : Fin 13 => (semVal (kcell (c, i)) 0 : sProp 𝕄))
      = iprop(unscopedSems0 c ∗ Pipeline.ownSems0 (Ix := Unit) (Name := ℕ) (U := UU) (Lvl := ℕ) (Val := Elt F) (τ := τ) osem c) := by
  rw [ownSems0_eq, unscopedSems0_eq]; exact thirteen c fun g => semVal g 0

/-- One device's counters and rounds become invariants. -/
theorem stand (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i => iprop(∃ κ : ℕ, cellInv ER (rd m) κ (kcell (c, i))))
          ∗ (bigSep Finset.univ fun i => iprop(atPos ER (kcell (c, i)) 0 ∅ 0 ∗ reached ER (kcell (c, i)) 0)) ∗ ownToks c) := by
  unfold dealt
  iintro ⟨Hos, Hus, Hst, Hat, Htok⟩
  ihave Hv := (Entails.of_eq (counters_eq (F := F) c).symm) $$ [Hos Hus]
  · isplitl [Hus] <;> iassumption
  imod (show iprop((bigSep Finset.univ fun i : Fin 13 => semVal (kcell (c, i)) 0) ∗ bigSep Finset.univ fun i : Fin 13 => roundState ER (rd m) (kcell (c, i)) 0)
      ⊢ (|={Set.univ}=> bigSep Finset.univ fun i => iprop(∃ κ : ℕ, cellInv ER (rd m) κ (kcell (c, i))) : sProp 𝕄) from by
        rw [← bigSep_sep']
        exact (bigSep_mono fun i _ => (Rounds.body_intro ER (rd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- An arrival token goes to the device whose transfer arrives there. -/
theorem arrivals_around :
    (bigSep Finset.univ fun c : Dev nD => bigSep Finset.univ fun k : Fin 6 => (dutyTok ER (recvCell k c) 0 false : sProp 𝕄))
      = bigSep Finset.univ fun c : Dev nD => bigSep Finset.univ fun k : Fin 6 => dutyTok ER (recvCell k (dest k c)) 0 false := by
  simp only [six, bigSep_sep']
  rw [bigSep_univ_equiv (along 0) (fun c : Dev nD => (dutyTok ER (recvCell 0 c) 0 false : sProp 𝕄)),
    bigSep_univ_equiv (along 1) (fun c : Dev nD => (dutyTok ER (recvCell 1 c) 0 false : sProp 𝕄)),
    bigSep_univ_equiv (along 2) (fun c : Dev nD => (dutyTok ER (recvCell 2 c) 0 false : sProp 𝕄)),
    bigSep_univ_equiv (along 3) (fun c : Dev nD => (dutyTok ER (recvCell 3 c) 0 false : sProp 𝕄)),
    bigSep_univ_equiv (along 4) (fun c : Dev nD => (dutyTok ER (recvCell 4 c) 0 false : sProp 𝕄)),
    bigSep_univ_equiv (along 5) (fun c : Dev nD => (dutyTok ER (recvCell 5 c) 0 false : sProp 𝕄))]
  rfl

/-- A barrier's tokens go to its two neighbours, the others as above. -/
theorem toks_around : (bigSep Finset.univ fun c : Dev nD => (ownToks c : sProp 𝕄)) = bigSep Finset.univ fun c : Dev nD => payToks c := by
  unfold ownToks payToks
  simp only [bigSep_sep']
  rw [arrivals_around, bigSep_univ_equiv ring (fun c : Dev nD => (dutyTok ER (barCell c) 0 false : sProp 𝕄)),
    bigSep_univ_equiv ring.symm (fun c : Dev nD => (dutyTok ER (barCell c) 0 true : sProp 𝕄))]
  rfl

/-- What all may know, given to each. -/
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']; exact bigSep_mono h

theorem ghost_ready (K : Dev nD × Fin 13 → ℕ) (c : Dev nD) : iprop(records m K ∗ linear c) ⊢ ready m c := by
  unfold ready ghost
  iintro H; iexists K; iexact H

theorem share_out :
    (bigSep Finset.univ fun c : Dev nD => iprop((bigSep Finset.univ fun i => iprop(∃ κ : ℕ, cellInv ER (rd m) κ (kcell (c, i))))
          ∗ (bigSep Finset.univ fun i => iprop(atPos ER (kcell (c, i)) 0 ∅ 0 ∗ reached ER (kcell (c, i)) 0)) ∗ ownToks c) : sProp 𝕄)
      ⊢ bigSep Finset.univ (ready m) := by
  rw [bigSep_sep', bigSep_sep', ← bigSep_univ_prod (fun ck : Dev nD × Fin 13 => iprop(∃ κ : ℕ, cellInv ER (rd m) κ (kcell ck))),
    bigSep_congr (s := Finset.univ) (fun (c : Dev nD) _ => bigSep_sep' Finset.univ (fun i : Fin 13 => (atPos ER (kcell (c, i)) 0 ∅ 0 : sProp 𝕄)) (fun i => reached ER (kcell (c, i)) 0)),
    bigSep_sep', ← bigSep_univ_prod (fun ck : Dev nD × Fin 13 => (reached ER (kcell ck) 0 : sProp 𝕄)), toks_around]
  iintro ⟨HI, ⟨Hat, #HR⟩, Htok⟩
  ihave HK := (BI.bigSep_exists_pi Finset.univ (fun (ck : Dev nD × Fin 13) (κ : ℕ) => (cellInv ER (rd m) κ (kcell ck) : sProp 𝕄))) $$ HI
  icases HK with ⟨%K, #HI⟩
  iapply (to_each (R := records m K) fun c _ => ghost_ready m K c)
  isplitr
  · unfold records; isplitl; · iexact HI
    iexact HR
  · unfold linear
    rw [bigSep_sep']
    isplitl [Hat] <;> iassumption

theorem set_up : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => stand m c).trans (bigSep_fupd _ _)).trans (BI.fupd_mono (share_out m))

/-! ## The credit a device is owed -/

theorem barCell_inj {a b : Dev nD} (h : barCell a = barCell b) : a = b := congrArg (fun g : GSem nD τ sig => g.1.1) h
theorem recvCell_inj {k k' : Fin 6} {a b : Dev nD} (h : recvCell k a = recvCell k' b) : k = k' ∧ a = b := by
  rw [← kcell_recv, ← kcell_recv] at h
  have := kcell_injective h
  refine ⟨?_, congrArg Prod.fst this⟩
  have h2 : iR k = iR k' := congrArg Prod.snd this
  have := congrArg Fin.val h2
  simp only [iR] at this
  exact Fin.ext (by omega)
theorem bar_ne_recv {k : Fin 6} {a b : Dev nD} : barCell a ≠ recvCell k b := by
  rw [← kcell_bar, ← kcell_recv]
  intro h
  have := congrArg Fin.val (congrArg Prod.snd (kcell_injective h))
  simp only [iR] at this
  exact absurd this (by show (0 : ℕ) ≠ 7 + k.val; omega)

theorem due_bar (k : Fin 6) (d c : Dev nD) : due k d (barCell c) () = 0 := by
  unfold due; rw [tallyAt_ne_cell bar_ne_recv]; rfl
theorem due_recv (k' k : Fin 6) (d c : Dev nD) : due k' d (recvCell k c) () = if k' = k ∧ d = orig k c then N else 0 := by
  unfold due
  rw [tallyAt_apply]
  refine if_congr ⟨fun h => ?_, fun h => ⟨?_, rfl⟩⟩ rfl rfl
  · obtain ⟨hk, hc⟩ := recvCell_inj h.1
    exact ⟨hk.symm, by rw [hc, hk, orig_dest]⟩
  · rw [h.1, h.2, dest_orig]
theorem bar_recv (d c : Dev nD) (k : Fin 6) : (tallyAt (barCell d) () 1 : CellTallies nD τ sig Unit) (recvCell k c) () = 0 := by
  rw [tallyAt_ne_cell fun h => bar_ne_recv h.symm]; rfl

theorem owed_bar (d c : Dev nD) : O₀ d (barCell c) () = (if d = lft c then 1 else 0) + (if d = rgt c then 1 else 0) := by
  unfold O₀ due6 due25
  simp only [Pi.add_apply, Finsupp.add_apply, due_bar, tallyAt_apply]
  rw [show ((0 : CellTallies nD τ sig Unit) (barCell c)) () = 0 from rfl]
  simp only [Nat.zero_add, Nat.add_zero]
  congr 1
  · refine if_congr ⟨fun h => ?_, fun h => ⟨?_, trivial⟩⟩ rfl rfl
    · rw [barCell_inj h.1, lft_rgt]
    · rw [h, rgt_lft]
  · refine if_congr ⟨fun h => ?_, fun h => ⟨?_, trivial⟩⟩ rfl rfl
    · rw [barCell_inj h.1, rgt_lft]
    · rw [h, lft_rgt]

theorem owed_recv (k : Fin 6) (d c : Dev nD) : O₀ d (recvCell k c) () = if d = orig k c then N else 0 := by
  unfold O₀ due6 due25
  simp only [Pi.add_apply, Finsupp.add_apply, due_recv, bar_recv]
  rw [show ((0 : CellTallies nD τ sig Unit) (recvCell k c)) () = 0 from rfl]
  by_cases h : d = orig k c
  · simp only [h, and_true, if_true]
    fin_cases k <;> rfl
  · simp only [h, and_false, if_false]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]

theorem launch_recv (k : Fin 6) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, Finset.sum_congr rfl fun d _ => owed_recv k d c,
    Finset.sum_ite_eq' Finset.univ (orig k c) fun _ => N, if_pos (Finset.mem_univ _)]

/-- The arrival semaphores, all different from each other and from the barrier. -/
def arrivals : Fin 6 ↪ SemLoc sig := ⟨fun k => .dma (recvS k), by decide⟩

theorem owed_to (c : Dev nD) : (Pipeline.launchCred O₀ c : sProp 𝕄) ⊢ credits c := by
  unfold Pipeline.launchCred credits
  rw [bigSep_univ_at _ (SemLoc.reg barS), launch_bar]
  refine sep_mono_right ?_
  have hsub : Finset.univ.map arrivals ⊆ Finset.univ.erase (SemLoc.reg barS) := by decide
  refine (BI.bigSep_subset hsub).trans ?_
  rw [bigSep_map]
  exact bigSep_mono fun k _ => Entails.of_eq (congrArg cred (launch_recv k c))

/-! ## The sides of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  iintro ⟨-, Hl, Hc, -, Hg⟩
  ihave Hc := (owed_to (F := F) c) $$ Hc
  imodintro
  unfold start ready
  isplitl
  · isplitl [Hg]; · iexact Hg
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁ scratch
  rw [counters_eq]
  iintro ⟨Hr, Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_of c _ 0 (by fin_cases w <;> fin_cases s <;> decide) (by
      rcases t with ⟨_ | _, ht⟩
      · exact above_O₀ c
      · exact Above.zero 0)

/-! ## The run -/

/-- The launch's memory: any contents, every counter at zero. -/
abbrev s₀ : MemSt nD τ sig (Elt F) := ⟨m, fun _ => 0, ρ⟩

/-- What a window's array holds at the end. -/
def finalA (c : Dev nD) (w : Fin cfg0.W) : Buf (Elt F) ((cfg0.win w).arr.view.loc (c : Thread nD τ)) := (dats m 0 c).arrAt w cfg0.N

def Arrays : PUnit × MemSt nD τ sig (Elt F) → Prop := fun r =>
  ∀ c : Dev nD, ∀ w : Fin cfg0.W, r.2.mem ((cfg0.win w).arr.view.loc (c : Thread nD τ)) = finalA m c w

set_option maxRecDepth 16384 in
/-- On four devices, for any float values and from any memory with zero counters, every fair execution of `main` ends;
    the arrays then hold what the proof data says and every counter is zero again. -/
theorem run_main : θ_run defs (onTc (τ := τ) (main (F := F))) (s₀ m ρ) (fun r => Arrays m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := ready m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := set_up m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m c (0 : Fin 3) = m ((c : Thread nD τ).loc main_arg0) :=
  (dats (F := F) m 0 c).arrAt_in (0 : Fin 3) rfl _
theorem finalA_w (c : Dev nD) : finalA m c (1 : Fin 3) = m ((c : Thread nD τ).loc main_arg1) :=
  (dats (F := F) m 0 c).arrAt_in (1 : Fin 3) rfl _

end Cert.Gather
-- ==== Proof.Value.lean ====
/-
  What the result array holds after the run, at any float values; and at the exact reals, entry by entry: the product of
  the gathered rows with the device's columns.
-/
module

public import proofs.«01_k».proof.Proof.Launch
public import Idealize.ShloMosaic.Lib.Pipeline.Value
public import Idealize.ShloMosaic.Lib.MatmulPlain
public import Idealize.ShloMosaic.PureOps.Ideal.Laws

@[expose] public section

set_option maxRecDepth 16384

noncomputable section

namespace Cert.Gather

open Cert.KernelIdeal Cert.KernelIdeal.Gen

open Idealize.ShloMosaic
open Idealize.ShloMosaic.TcCoe
open Idealize.SL.Sem
open Idealize.ShloMosaic.Pipeline (Dat Cfg Window)
open Idealize.ShloMosaic.ValueIdx
open scoped BigOperators

section Any

variable {F : FTy → Type} [FloatOps F]
variable (m : (ℓ : Loc nD τ sig) → Buf (Elt F) ℓ) (ρ : Dev nD → PrngReg)

/-! ## Each window is its whole array -/

theorem xAt_eq (c : Dev nD) : xAt m c = m ((c : Thread nD τ).loc main_arg0) := by
  have hz : (fun a => win0_0.index t0_0 a * main_arg0.ty.shape.size a) = fun _ => 0 := funext fun a => by fin_cases a <;> decide
  exact Memref.read_access_unit_zero (Elt F) main_arg0 hz (fun a => by rw [congrFun hz a]; simp) _
theorem wAt_eq (c : Dev nD) : wAt m c = m ((c : Thread nD τ).loc main_arg1) := by
  have hz : (fun a => win0_1.index t0_0 a * main_arg1.ty.shape.size a) = fun _ => 0 := funext fun a => by fin_cases a <;> decide
  exact Memref.read_access_unit_zero (Elt F) main_arg1 hz (fun a => by rw [congrFun hz a]; simp) _

theorem flushed_eq (c : Dev nD) (t : Fin cfg0.N) (_ : (cfg0.win 2).flush t = true) :
    (dats m 0 c).flushed 2 t = ((cfg0.win 2).blk t).view.read (Elt F) (outAt m c) := by
  obtain rfl : t = t0_0 := fin_N0 t
  have hz : (fun a => win0_2.index t0_0 a * main_v1.ty.shape.size a) = fun _ => 0 := funext fun a => by fin_cases a <;> decide
  exact (Memref.read_access_unit_zero (Elt F) main_v1 hz (fun a => by rw [congrFun hz a]; simp) (outAt m c)).symm

theorem finalA_out (c : Dev nD) : finalA m c (2 : Fin 3) = outAt m c :=
  (dats m 0 c).arrAt_eq_of_cover 2 (outAt m c) (flushed_eq m c) fun i =>
    ⟨t0_0, flush0_2 t0_0, by
      show i ∈ ((View.whole main_v1).slice (win0_2.rect t0_0)).set
      rw [View.set_slice_whole, Rect.mem_set_unit]
      intro a
      have h0 : (i 0 : Nat) < 2048 := (i 0).isLt
      have h1 : (i 1 : Nat) < 512 := (i 1).isLt
      match a with
      | ⟨0, _⟩ =>
        show win0_2.index t0_0 0 * win0_2.size 0 ≤ (i 0 : Nat) ∧ (i 0 : Nat) < win0_2.index t0_0 0 * win0_2.size 0 + win0_2.xsize (grid0.coords t0_0) 0
        rw [show win0_2.index t0_0 0 * win0_2.size 0 = 0 from by decide +kernel, show win0_2.xsize (grid0.coords t0_0) 0 = 2048 from by decide +kernel]; omega
      | ⟨1, _⟩ =>
        show win0_2.index t0_0 1 * win0_2.size 1 ≤ (i 1 : Nat) ∧ (i 1 : Nat) < win0_2.index t0_0 1 * win0_2.size 1 + win0_2.xsize (grid0.coords t0_0) 1
        rw [show win0_2.index t0_0 1 * win0_2.size 1 = 0 from by decide +kernel, show win0_2.xsize (grid0.coords t0_0) 1 = 512 from by decide +kernel]; omega⟩

/-- The run read back: the result at `outAt`, both arguments as launched, every counter at zero. -/
theorem run_read : θ_run defs (onTc (τ := τ) (main (F := F))) ⟨m, fun _ => 0, ρ⟩ fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun _ h => ⟨fun c => ⟨(h.1 c 2).trans (finalA_out m c), (h.1 c 0).trans (finalA_x m c), (h.1 c 1).trans (finalA_w m c)⟩, h.2⟩)
    (run_main m ρ)

/-! ## The halves, row by row -/

/-- Rows reshaped into two halves of `n` rows: half `h`, row `r` is row `n * h + r`. -/
theorem halves_apply {α : Type} {n k : ℕ} (X : (⟨2, ![2 * n, k]⟩ : Shape).Idx → α)
    (hc : (⟨2, ![2 * n, k]⟩ : Shape).ShapeCasts ⟨3, ![2, n, k]⟩) (h : Fin 2) (r : Fin n) (j : Fin k) (R : Fin (2 * n)) (hR : R.val = h.val * n + r.val) :
    shapeCast ⟨3, ![2, n, k]⟩ X hc (ix3 h r j) = X (ix2 R j) :=
  shapeCast_apply X hc _ _ (by
    rw [Shape.rowMajor_val_three, Shape.rowMajor_val_two]
    show R.val * k + j.val = (h.val * n + r.val) * k + j.val
    rw [hR])

theorem ownAt_apply (c : Dev nD) (h : Fin 2) (r : Fin 256) (j : Fin 2048) (R : Fin 512) (hR : R.val = h.val * 256 + r.val) :
    ownAt m c (ix3 h r j) = xAt m c (ix2 R j) := by
  unfold ownAt k0_pay1
  rw [shapeCast_self, shapeCast_self]
  exact halves_apply (n := 256) (k := 2048) (xAt m c) shapeCasts_S512x2048_S2x256x2048 h r j R hR

theorem ownAt_back (c : Dev nD) : k0_pay2 (ownAt m c) = xAt m c := by
  unfold ownAt k0_pay1 k0_pay2
  dsimp only
  rw [shapeCast_self, shapeCast_self, shapeCast_shapeCast]

/-- One half of a buffer of two, through the view with its leading axis dropped. -/
theorem half_read {n k : ℕ} (b : Fin 2) (X : (⟨3, ![2, n, k]⟩ : Shape).Idx → F .bf16)
    (g : (⟨3, ![1, n, k]⟩ : Shape).Idx → F .bf16) (hg : ∀ i j, g (ix3 0 i j) = X (ix3 b i j))
    (hc : (⟨3, ![1, n, k]⟩ : Shape).ShapeCasts ⟨2, ![n, k]⟩) (i : Fin n) (j : Fin k) :
    shapeCast ⟨2, ![n, k]⟩ g hc (ix2 i j) = X (ix3 b i j) := by
  rw [← hg]
  exact shapeCast_apply g hc _ _ (by
    rw [Shape.rowMajor_val_three, Shape.rowMajor_val_two]
    show (0 * n + i.val) * k + j.val = i.val * k + j.val
    rw [Nat.zero_mul, Nat.zero_add])

theorem lo_apply (c : Dev nD) (r : Fin 256) (j : Fin 2048) (R : Fin 512) (hR : R.val = r.val) : lo m c (ix2 r j) = xAt m c (ix2 R j) := by
  rw [← ownAt_apply m c 0 r j R (by rw [hR]; show r.val = 0 * 256 + r.val; omega)]
  refine half_read (n := 256) (k := 2048) 0 (ownAt m c) ((ownM.slice rect0 (fun _ => rfl)).view.read (Elt F) (ownAt m c)) (fun i j => ?_)
    (by decide) r j
  show ownAt m c _ = _
  congr 1
  funext a; apply Fin.ext
  match a with
  | ⟨0, _⟩ => rfl
  | ⟨1, _⟩ => show 0 + 1 * i.val = i.val; omega
  | ⟨2, _⟩ => show 0 + 1 * j.val = j.val; omega

theorem hi_apply (c : Dev nD) (r : Fin 256) (j : Fin 2048) (R : Fin 512) (hR : R.val = 256 + r.val) : hi m c (ix2 r j) = xAt m c (ix2 R j) := by
  rw [← ownAt_apply m c 1 r j R (by rw [hR]; show 256 + r.val = 1 * 256 + r.val; omega)]
  refine half_read (n := 256) (k := 2048) 1 (ownAt m c) ((ownM.slice rect1 (fun _ => rfl)).view.read (Elt F) (ownAt m c)) (fun i j => ?_)
    (by decide) r j
  show ownAt m c _ = _
  congr 1
  funext a; apply Fin.ext
  match a with
  | ⟨0, _⟩ => rfl
  | ⟨1, _⟩ => show 0 + 1 * i.val = i.val; omega
  | ⟨2, _⟩ => show 0 + 1 * j.val = j.val; omega

end Any

/-! ## At the exact reals -/

section Exact

variable (m : (ℓ : Loc nD τ sig) → Buf (Elt Ideal) ℓ)

/-- Half a device's rows against the columns: the sum of products. -/
theorem rowsDot_apply (X : S256x2048.Idx → Elt Ideal .bf16) (w : S2048x512.Idx → Elt Ideal .bf16) (r : Fin 256) (j : Fin 512) :
    rowsDot X w (ix2 r j) = ∑ k : Fin 2048, X (ix2 r k) * w (ix2 k j) := by
  unfold rowsDot k0_pay7 k0_pay6
  dsimp only
  rw [shapeCast_self]
  refine (Ideal.matmul_plain_apply (M := 256) (K := 2048) (N := 512) (φ₁ := .bf16) (φ₂ := .bf16) none X w (constant S256x512 .f32 0x00000000#32) r j).trans ?_
  show Ideal.ofBits .f32 0x00000000#32 + _ = _
  rw [Ideal.ofBits_zero_f32, zero_add]

theorem ownDot_apply (X : S512x2048.Idx → Elt Ideal .bf16) (w : S2048x512.Idx → Elt Ideal .bf16) (r : Fin 512) (j : Fin 512) :
    k0_pay3 (F := Ideal) X w (ix2 r j) = ∑ k : Fin 2048, X (ix2 r k) * w (ix2 k j) := by
  unfold k0_pay3
  rw [shapeCast_self]
  refine (Ideal.matmul_plain_apply (M := 512) (K := 2048) (N := 512) (φ₁ := .bf16) (φ₂ := .bf16) none X w (constant S512x512 .f32 0x00000000#32) r j).trans ?_
  show Ideal.ofBits .f32 0x00000000#32 + _ = _
  rw [Ideal.ofBits_zero_f32, zero_add]

/-- Whichever way a row was multiplied, it is the row of its device against the columns. -/
theorem outRow_apply (c p : Dev nD) (r j : Fin 512) :
    outRow m c p r j = ∑ k : Fin 2048, xAt m p (ix2 r k) * wAt m c (ix2 k j) := by
  unfold outRow
  by_cases hp : p = c
  · rw [if_pos hp, ownAt_back, hp, ← ownDot_apply]
    congr 1; funext a; fin_cases a <;> rfl
  · rw [if_neg hp]
    by_cases hr : r.val < 256
    · rw [dif_pos hr]
      refine Eq.trans ?_ ((rowsDot_apply (lo m p) (wAt m c) ⟨r.val, hr⟩ j).trans (Finset.sum_congr rfl fun k _ => ?_))
      · congr 1; funext a; fin_cases a <;> rfl
      · rw [lo_apply m p ⟨r.val, hr⟩ k r rfl]
    · rw [dif_neg hr]
      have hlt : r.val - 256 < 256 := by have := r.isLt; omega
      refine Eq.trans ?_ ((rowsDot_apply (hi m p) (wAt m c) ⟨r.val - 256, hlt⟩ j).trans (Finset.sum_congr rfl fun k _ => ?_))
      · congr 1; funext a; fin_cases a <;> rfl
      · rw [hi_apply m p ⟨r.val - 256, hlt⟩ k r (by show r.val = 256 + (r.val - 256); omega)]

end Exact

end Cert.Gather
-- ==== Proof.Ref.lean ====
/-
  The reference's result, entry by entry, and that every device's result is its block of columns of it.
-/
module

public import proofs.«01_k».proof.Proof.Value
public import proofs.«01_k».proof.Defs
public import proofs.«01_k».proof.Proof.Gen.ReferenceIdeal.Run
public import Idealize.ShloMosaic.Lib.StackMember

@[expose] public section

set_option maxRecDepth 16384

noncomputable section

namespace Cert.Gather

open Idealize.ShloMosaic
open Idealize.ShloMosaic.TcCoe
open Idealize.SL.Sem
open Idealize.ShloMosaic.ValueIdx
open scoped BigOperators

/-- The reference's product of two whole matrices, in the reference's own terms. -/
def whole (A B : Cert.ReferenceIdeal.S2048x2048.Idx → Elt Ideal .bf16) : Cert.ReferenceIdeal.S2048x2048.Idx → Elt Ideal .bf16 :=
  truncf (F := Ideal) .bf16 (Host.dotGeneral (F := Ideal) (φ₁ := .bf16) (φ₂ := .bf16) Cert.ReferenceIdeal.dot_S2048x2048_S2048x2048_S2048x2048_1_0_0_1_n_n none A B)
    Cert.ReferenceIdeal.Facts₀.bitsLt_bf16_f32

theorem whole_apply (A B : Cert.ReferenceIdeal.S2048x2048.Idx → Elt Ideal .bf16) (i j : Fin 2048) :
    whole A B (ix2 i j) = ∑ k : Fin 2048, A (ix2 i k) * B (ix2 k j) :=
  StackMember.dotGeneral_plain_apply (m := 2048) (k := 2048) (n := 2048) (φ₁ := .bf16) (φ₂ := .bf16) none A B i j

/-- If every device holds its rows of `A` and its columns of `B`, it ends with its columns of their product. -/
theorem outAt_block (m : (ℓ : Loc Cert.KernelIdeal.nD Cert.KernelIdeal.τ Cert.KernelIdeal.sig) → Buf (Elt Ideal) ℓ)
    (A B : Cert.ReferenceIdeal.S2048x2048.Idx → Elt Ideal .bf16)
    (hA : ∀ c : Dev Cert.KernelIdeal.nD, m ((c.tc : Thread Cert.KernelIdeal.nD Cert.KernelIdeal.τ).loc Cert.KernelIdeal.main_arg0) = Layout.block ⟨2, ![512, 2048]⟩ ⟨2, ![2048, 2048]⟩ 0 4 c A)
    (hB : ∀ c : Dev Cert.KernelIdeal.nD, m ((c.tc : Thread Cert.KernelIdeal.nD Cert.KernelIdeal.τ).loc Cert.KernelIdeal.main_arg1) = Layout.block ⟨2, ![2048, 512]⟩ ⟨2, ![2048, 2048]⟩ 1 4 c B)
    (c : Dev Cert.KernelIdeal.nD) :
    outAt (F := Ideal) m c = Layout.block ⟨2, ![2048, 512]⟩ ⟨2, ![2048, 2048]⟩ 1 4 c (whole A B) := by
  funext i
  have hi : (i 0).val < 2048 := (i 0).isLt
  have hj : (i 1).val < 512 := (i 1).isLt
  have hc : c.val < 4 := c.isLt
  have ht : Layout.Tiles ⟨2, ![2048, 512]⟩ ⟨2, ![2048, 2048]⟩ 1 4 := by decide
  have e : ht.idx c i = ix2 (⟨(i 0).val, hi⟩ : Fin 2048) (⟨c.val * 512 + (i 1).val, by omega⟩ : Fin 2048) := by
    funext a; apply Fin.ext; match a with | ⟨0, _⟩ => rfl | ⟨1, _⟩ => rfl
  rw [Layout.block_apply, e, whole_apply]
  refine (outRow_apply m c _ _ (i 1)).trans ?_
  refine Finset.sum_congr rfl fun k _ => ?_
  rw [xAt_eq, wAt_eq]
  refine congrArg₂ (· * ·) ?_ ?_
  · refine (congrFun (hA _) _).trans ?_
    rw [Layout.block_apply]
    congr 1
    funext a; apply Fin.ext
    match a with
    | ⟨0, _⟩ => show (i 0).val / 512 * 512 + (i 0).val % 512 = (i 0).val; omega
    | ⟨1, _⟩ => rfl
  · refine (congrFun (hB c) _).trans ?_
    rw [Layout.block_apply]
    congr 1
    funext a; apply Fin.ext
    match a with
    | ⟨0, _⟩ => rfl
    | ⟨1, _⟩ => rfl

end Cert.Gather
-- ==== Proof.lean ====
/-
  The five claims: each of the three programs runs to an end with its arguments unchanged and every counter at zero; the
  exact kernel is the printed one, operation by operation; and at the exact reals every device's result is its block of
  columns of the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ref
public import Idealize.ShloMosaic.Adequacy
public import Idealize.ShloMosaic.Init

@[expose] public section

noncomputable section

namespace Cert.Proof

open Idealize.ShloMosaic Idealize.SL.Sem Cert.Gather

/-- The run for any float values, without what the result holds. -/
theorem any_runs {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (run_read (F := F) m ρ)

/-- The printed kernel and its exact counterpart have one text: their call runs the same body. -/
theorem same_bodies {F : FTy → Type} [FloatOps F] : (Cert.Kernel.defs₀ (F := F)) = (Cert.KernelIdeal.defs₀ (F := F)) := by
  unfold Cert.Kernel.defs₀ Cert.KernelIdeal.defs₀
  congr 1
  funext l a
  match l, a with
  | 0, (t, s) => rfl

theorem same_defs {F : FTy → Type} [FloatOps F] : (Cert.Kernel.defs (F := F)) = (Cert.KernelIdeal.defs (F := F)) := by
  unfold Cert.Kernel.defs Cert.KernelIdeal.defs
  rw [same_bodies]; rfl

/-- The printed kernel's run. -/
theorem kernel_runs : Cert.quiescent_Kernel := by
  intro m ρ _
  rw [same_defs]
  exact any_runs (F := Bits) m ρ

/-- The exact kernel's run. -/
theorem exact_runs : Cert.quiescent_KernelIdeal := fun m ρ _ => any_runs (F := Ideal) m ρ

/-- On whole arrays of which the devices hold the blocks, every device's result is its block of the reference's. -/
theorem equal_results : Cert.algebraic_KernelIdeal_ReferenceIdeal := fun m g m' g' _ h =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c).1.trans (outAt_block m _ _ (fun c => (h c).1) (fun c => (h c).2) c), (hr.1 c).2⟩) (run_read (F := Ideal) m g),
    (θ_run Cert.ReferenceIdeal.defs _ _).mono (fun _ hr => hr 0) (Cert.ReferenceIdeal.Value.run m' g')⟩

/-- The reference declares no semaphore. -/
theorem reference_runs : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem claim : Cert.Claim := ⟨Cert.Kernel.Gen.facts, Cert.KernelIdeal.Gen.facts, Cert.ReferenceIdeal.Gen.facts,
  kernel_runs, exact_runs, reference_runs, trivial, equal_results⟩

end Cert.Proof

end
